-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S2x2x1024x1024 : Shape := ⟨4, ![2, 2, 1024, 1024]⟩
abbrev S2048x2x128 : Shape := ⟨3, ![2048, 2, 128]⟩
abbrev S128x256 : Shape := ⟨2, ![128, 256]⟩
abbrev S3x2 : Shape := ⟨2, ![3, 2]⟩
abbrev S2 : Shape := ⟨1, ![2]⟩
abbrev S_ : Shape := ⟨0, ![]⟩
abbrev S1x1 : Shape := ⟨2, ![1, 1]⟩
abbrev S1x1x1024x1024 : Shape := ⟨4, ![1, 1, 1024, 1024]⟩
abbrev S1 : Shape := ⟨1, ![1]⟩
abbrev S1x2048x2x128 : Shape := ⟨4, ![1, 2048, 2, 128]⟩
abbrev S1x128x1024 : Shape := ⟨3, ![1, 128, 1024]⟩
abbrev S128x1024 : Shape := ⟨2, ![128, 1024]⟩
abbrev S1024x128 : Shape := ⟨2, ![1024, 128]⟩
abbrev S128x128 : Shape := ⟨2, ![128, 128]⟩
abbrev S2048x1x128 : Shape := ⟨3, ![2048, 1, 128]⟩
abbrev S2048x128 : Shape := ⟨2, ![2048, 128]⟩
abbrev S128x2048 : Shape := ⟨2, ![128, 2048]⟩
abbrev S128 : Shape := ⟨1, ![128]⟩
abbrev S128x1 : Shape := ⟨2, ![128, 1]⟩
abbrev S256x1024 : Shape := ⟨2, ![256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S4x2048x32x128, .f32⟩
  | .hbm, ⟨3, _⟩ => ⟨S4x2048x32x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x1024, .f32⟩
  | .local _ .vmem, ⟨4, _⟩ => ⟨S2x2x1024x1024, .f32⟩
  | .local _ .vmem, ⟨5, _⟩ => ⟨S2048x2x128, .f32⟩
  | .local _ .vmem, ⟨6, _⟩ => ⟨S2048x2x128, .f32⟩
  | .local _ .vmem, ⟨7, _⟩ => ⟨S128x256, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_16 : BitVec 32 := 1#32
  let v13 : BitVec 32 := Scalar.muli v4 c1_i32_16
  let v14 : BitVec 32 := Scalar.addi c0_i32_17 v13
  v14.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_26 : BitVec 32 := 1#32
  let v21 : BitVec 32 := Scalar.muli v4 c1_i32_26
  let v22 : BitVec 32 := Scalar.addi c0_i32_27 v21
  v22.toNat
def k0_off1 (d0 : Dev nD) (c0_i32_30 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_34 : BitVec 32 := 0#32
  let c8_i32 : BitVec 32 := 8#32
  let v29 : BitVec 32 := Scalar.muli v2 c8_i32
  let v30 : BitVec 32 := Scalar.addi v29 c0_i32_30
  let c0_i32_35 : BitVec 32 := 0#32
  ![v2.toNat, 0, v30.toNat, 0]
@[reducible] def k0_t1_loop : Scf.Loop 32 :=
  let c0_i32_45 : BitVec 32 := 0#32
  let c16_i32 : BitVec 32 := 16#32
  let v49 : BitVec 32 := Scalar.addi c0_i32_45 c16_i32
  let c1_i32_46 : BitVec 32 := 1#32
  ⟨c0_i32_45, v49, c1_i32_46⟩
def k0_off2 (k0_t1 : Fin k0_t1_loop.trips) : Fin 3 → Nat :=
  let c0 : Index := 0#32
  let c0_i32_45 : BitVec 32 := 0#32
  let c1_i32_46 : BitVec 32 := 1#32
  let arg14 : BitVec 32 := Scf.iv c0_i32_45 c1_i32_46 k0_t1
  let c128_i32 : BitVec 32 := 128#32
  let v489 : BitVec 32 := Scalar.muli arg14 c128_i32
  let v490 : Index := Scalar.indexCast v489
  let c0_607 : Index := 0#32
  ![0, v490.toNat, 0]
@[reducible] def k0_t2_loop : Scf.Loop 32 :=
  let c0_i32_64 : BitVec 32 := 0#32
  let c16_i32_65 : BitVec 32 := 16#32
  let v70 : BitVec 32 := Scalar.addi c0_i32_64 c16_i32_65
  let c1_i32_66 : BitVec 32 := 1#32
  ⟨c0_i32_64, v70, c1_i32_66⟩
def k0_off3 (k0_t2 : Fin k0_t2_loop.trips) : Fin 3 → Nat :=
  let c0 : Index := 0#32
  let c0_i32_64 : BitVec 32 := 0#32
  let c1_i32_66 : BitVec 32 := 1#32
  let arg14 : BitVec 32 := Scf.iv c0_i32_64 c1_i32_66 k0_t2
  let c128_i32 : BitVec 32 := 128#32
  let v489 : BitVec 32 := Scalar.muli arg14 c128_i32
  let v490 : Index := Scalar.indexCast v489
  let c0_607 : Index := 0#32
  ![0, v490.toNat, 0]
@[reducible] def k0_t3_loop : Scf.Loop 32 :=
  let c0_i32_84 : BitVec 32 := 0#32
  let c16_i32_85 : BitVec 32 := 16#32
  let v91 : BitVec 32 := Scalar.addi c0_i32_84 c16_i32_85
  let c1_i32_86 : BitVec 32 := 1#32
  ⟨c0_i32_84, v91, c1_i32_86⟩
def k0_off4 (k0_t3 : Fin k0_t3_loop.trips) : Fin 3 → Nat :=
  let c0 : Index := 0#32
  let c0_i32_84 : BitVec 32 := 0#32
  let c1_i32_86 : BitVec 32 := 1#32
  let arg14 : BitVec 32 := Scf.iv c0_i32_84 c1_i32_86 k0_t3
  let c128_i32 : BitVec 32 := 128#32
  let v489 : BitVec 32 := Scalar.muli arg14 c128_i32
  let v490 : Index := Scalar.indexCast v489
  let c0_607 : Index := 0#32
  ![0, v490.toNat, 0]
@[reducible] def k0_t4_loop : Scf.Loop 32 :=
  let c0_i32_103 : BitVec 32 := 0#32
  let c16_i32_104 : BitVec 32 := 16#32
  let v112 : BitVec 32 := Scalar.addi c0_i32_103 c16_i32_104
  let c1_i32_105 : BitVec 32 := 1#32
  ⟨c0_i32_103, v112, c1_i32_105⟩
def k0_off5 (k0_t4 : Fin k0_t4_loop.trips) : Fin 3 → Nat :=
  let c0 : Index := 0#32
  let c0_i32_103 : BitVec 32 := 0#32
  let c1_i32_105 : BitVec 32 := 1#32
  let arg14 : BitVec 32 := Scf.iv c0_i32_103 c1_i32_105 k0_t4
  let c128_i32 : BitVec 32 := 128#32
  let v489 : BitVec 32 := Scalar.muli arg14 c128_i32
  let v490 : Index := Scalar.indexCast v489
  let c0_607 : Index := 0#32
  ![0, v490.toNat, 0]
def k0_dev5 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_153 : BitVec 32 := 1#32
  let v133 : BitVec 32 := Scalar.muli v4 c1_i32_153
  let v134 : BitVec 32 := Scalar.addi c0_i32_154 v133
  v134.toNat
def k0_dev6 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_167 : BitVec 32 := 1#32
  let v143 : BitVec 32 := Scalar.muli v4 c1_i32_167
  let v144 : BitVec 32 := Scalar.addi c0_i32_168 v143
  v144.toNat
def k0_off6 (d0 : Dev nD) (c3_i32 : BitVec 32) (c0_i32_175 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_179 : BitVec 32 := 0#32
  let v153 : BitVec 32 := Scalar.addi v2 c3_i32
  let c4_i32_173 : BitVec 32 := 4#32
  let v154 : BitVec 32 := Scalar.remsi v153 c4_i32_173
  let c8_i32_174 : BitVec 32 := 8#32
  let v155 : BitVec 32 := Scalar.muli v154 c8_i32_174
  let v156 : BitVec 32 := Scalar.addi v155 c0_i32_175
  let c0_i32_180 : BitVec 32 := 0#32
  ![v2.toNat, 0, v156.toNat, 0]
@[reducible] def k0_t5_loop : Scf.Loop 32 :=
  let c0_i32_194 : BitVec 32 := 0#32
  let c16_i32_195 : BitVec 32 := 16#32
  let v175 : BitVec 32 := Scalar.addi c0_i32_194 c16_i32_195
  let c1_i32_196 : BitVec 32 := 1#32
  ⟨c0_i32_194, v175, c1_i32_196⟩
def k0_off7 (k0_t5 : Fin k0_t5_loop.trips) : Fin 3 → Nat :=
  let c0 : Index := 0#32
  let c0_i32_194 : BitVec 32 := 0#32
  let c1_i32_196 : BitVec 32 := 1#32
  let arg14 : BitVec 32 := Scf.iv c0_i32_194 c1_i32_196 k0_t5
  let c128_i32 : BitVec 32 := 128#32
  let v489 : BitVec 32 := Scalar.muli arg14 c128_i32
  let v490 : Index := Scalar.indexCast v489
  let c0_607 : Index := 0#32
  ![0, v490.toNat, 0]
@[reducible] def k0_t6_loop : Scf.Loop 32 :=
  let c0_i32_218 : BitVec 32 := 0#32
  let c16_i32_219 : BitVec 32 := 16#32
  let v196 : BitVec 32 := Scalar.addi c0_i32_218 c16_i32_219
  let c1_i32_220 : BitVec 32 := 1#32
  ⟨c0_i32_218, v196, c1_i32_220⟩
def k0_off8 (k0_t6 : Fin k0_t6_loop.trips) : Fin 3 → Nat :=
  let c0 : Index := 0#32
  let c0_i32_218 : BitVec 32 := 0#32
  let c1_i32_220 : BitVec 32 := 1#32
  let arg14 : BitVec 32 := Scf.iv c0_i32_218 c1_i32_220 k0_t6
  let c128_i32 : BitVec 32 := 128#32
  let v489 : BitVec 32 := Scalar.muli arg14 c128_i32
  let v490 : Index := Scalar.indexCast v489
  let c0_607 : Index := 0#32
  ![0, v490.toNat, 0]
@[reducible] def k0_t7_loop : Scf.Loop 32 :=
  let c0_i32_242 : BitVec 32 := 0#32
  let c16_i32_243 : BitVec 32 := 16#32
  let v217 : BitVec 32 := Scalar.addi c0_i32_242 c16_i32_243
  let c1_i32_244 : BitVec 32 := 1#32
  ⟨c0_i32_242, v217, c1_i32_244⟩
def k0_off9 (k0_t7 : Fin k0_t7_loop.trips) : Fin 3 → Nat :=
  let c0 : Index := 0#32
  let c0_i32_242 : BitVec 32 := 0#32
  let c1_i32_244 : BitVec 32 := 1#32
  let arg14 : BitVec 32 := Scf.iv c0_i32_242 c1_i32_244 k0_t7
  let c128_i32 : BitVec 32 := 128#32
  let v489 : BitVec 32 := Scalar.muli arg14 c128_i32
  let v490 : Index := Scalar.indexCast v489
  let c0_607 : Index := 0#32
  ![0, v490.toNat, 0]
@[reducible] def k0_t8_loop : Scf.Loop 32 :=
  let c0_i32_266 : BitVec 32 := 0#32
  let c16_i32_267 : BitVec 32 := 16#32
  let v238 : BitVec 32 := Scalar.addi c0_i32_266 c16_i32_267
  let c1_i32_268 : BitVec 32 := 1#32
  ⟨c0_i32_266, v238, c1_i32_268⟩
def k0_off10 (k0_t8 : Fin k0_t8_loop.trips) : Fin 3 → Nat :=
  let c0 : Index := 0#32
  let c0_i32_266 : BitVec 32 := 0#32
  let c1_i32_268 : BitVec 32 := 1#32
  let arg14 : BitVec 32 := Scf.iv c0_i32_266 c1_i32_268 k0_t8
  let c128_i32 : BitVec 32 := 128#32
  let v489 : BitVec 32 := Scalar.muli arg14 c128_i32
  let v490 : Index := Scalar.indexCast v489
  let c0_607 : Index := 0#32
  ![0, v490.toNat, 0]
def k0_dev7 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_325 : BitVec 32 := 1#32
  let v267 : BitVec 32 := Scalar.muli v7 c1_i32_325
  let v268 : BitVec 32 := Scalar.addi c0_i32_326 v267
  v268.toNat
def k0_dev8 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_337 : BitVec 32 := 1#32
  let v269 : BitVec 32 := Scalar.muli v4 c1_i32_337
  let v270 : BitVec 32 := Scalar.addi c0_i32_338 v269
  v270.toNat
def k0_dev9 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_351 : BitVec 32 := 1#32
  let v279 : BitVec 32 := Scalar.muli v4 c1_i32_351
  let v280 : BitVec 32 := Scalar.addi c0_i32_352 v279
  v280.toNat
@[reducible] def k0_t9_loop : Scf.Loop 32 :=
  let c0_i32_379 : BitVec 32 := 0#32
  let c16_i32_380 : BitVec 32 := 16#32
  let v311 : BitVec 32 := Scalar.addi c0_i32_379 c16_i32_380
  let c1_i32_381 : BitVec 32 := 1#32
  ⟨c0_i32_379, v311, c1_i32_381⟩
def k0_off11 (k0_t9 : Fin k0_t9_loop.trips) : Fin 3 → Nat :=
  let c0 : Index := 0#32
  let c0_i32_379 : BitVec 32 := 0#32
  let c1_i32_381 : BitVec 32 := 1#32
  let arg14 : BitVec 32 := Scf.iv c0_i32_379 c1_i32_381 k0_t9
  let c128_i32 : BitVec 32 := 128#32
  let v489 : BitVec 32 := Scalar.muli arg14 c128_i32
  let v490 : Index := Scalar.indexCast v489
  let c0_607 : Index := 0#32
  ![0, v490.toNat, 0]
@[reducible] def k0_t10_loop : Scf.Loop 32 :=
  let c0_i32_403 : BitVec 32 := 0#32
  let c16_i32_404 : BitVec 32 := 16#32
  let v332 : BitVec 32 := Scalar.addi c0_i32_403 c16_i32_404
  let c1_i32_405 : BitVec 32 := 1#32
  ⟨c0_i32_403, v332, c1_i32_405⟩
def k0_off12 (k0_t10 : Fin k0_t10_loop.trips) : Fin 3 → Nat :=
  let c0 : Index := 0#32
  let c0_i32_403 : BitVec 32 := 0#32
  let c1_i32_405 : BitVec 32 := 1#32
  let arg14 : BitVec 32 := Scf.iv c0_i32_403 c1_i32_405 k0_t10
  let c128_i32 : BitVec 32 := 128#32
  let v489 : BitVec 32 := Scalar.muli arg14 c128_i32
  let v490 : Index := Scalar.indexCast v489
  let c0_607 : Index := 0#32
  ![0, v490.toNat, 0]
@[reducible] def k0_t11_loop : Scf.Loop 32 :=
  let c0_i32_427 : BitVec 32 := 0#32
  let c16_i32_428 : BitVec 32 := 16#32
  let v353 : BitVec 32 := Scalar.addi c0_i32_427 c16_i32_428
  let c1_i32_429 : BitVec 32 := 1#32
  ⟨c0_i32_427, v353, c1_i32_429⟩
def k0_off13 (k0_t11 : Fin k0_t11_loop.trips) : Fin 3 → Nat :=
  let c0 : Index := 0#32
  let c0_i32_427 : BitVec 32 := 0#32
  let c1_i32_429 : BitVec 32 := 1#32
  let arg14 : BitVec 32 := Scf.iv c0_i32_427 c1_i32_429 k0_t11
  let c128_i32 : BitVec 32 := 128#32
  let v489 : BitVec 32 := Scalar.muli arg14 c128_i32
  let v490 : Index := Scalar.indexCast v489
  let c0_607 : Index := 0#32
  ![0, v490.toNat, 0]
@[reducible] def k0_t12_loop : Scf.Loop 32 :=
  let c0_i32_451 : BitVec 32 := 0#32
  let c16_i32_452 : BitVec 32 := 16#32
  let v374 : BitVec 32 := Scalar.addi c0_i32_451 c16_i32_452
  let c1_i32_453 : BitVec 32 := 1#32
  ⟨c0_i32_451, v374, c1_i32_453⟩
def k0_off14 (k0_t12 : Fin k0_t12_loop.trips) : Fin 3 → Nat :=
  let c0 : Index := 0#32
  let c0_i32_451 : BitVec 32 := 0#32
  let c1_i32_453 : BitVec 32 := 1#32
  let arg14 : BitVec 32 := Scf.iv c0_i32_451 c1_i32_453 k0_t12
  let c128_i32 : BitVec 32 := 128#32
  let v489 : BitVec 32 := Scalar.muli arg14 c128_i32
  let v490 : Index := Scalar.indexCast v489
  let c0_607 : Index := 0#32
  ![0, v490.toNat, 0]
@[reducible] def k0_t13_loop : Scf.Loop 32 :=
  let c0_i32_531 : BitVec 32 := 0#32
  let c16_i32_532 : BitVec 32 := 16#32
  let v425 : BitVec 32 := Scalar.addi c0_i32_531 c16_i32_532
  let c1_i32_533 : BitVec 32 := 1#32
  ⟨c0_i32_531, v425, c1_i32_533⟩
def k0_off15 (k0_t13 : Fin k0_t13_loop.trips) : Fin 3 → Nat :=
  let c0 : Index := 0#32
  let c0_i32_531 : BitVec 32 := 0#32
  let c1_i32_533 : BitVec 32 := 1#32
  let arg14 : BitVec 32 := Scf.iv c0_i32_531 c1_i32_533 k0_t13
  let c128_i32 : BitVec 32 := 128#32
  let v489 : BitVec 32 := Scalar.muli arg14 c128_i32
  let v490 : Index := Scalar.indexCast v489
  let c0_607 : Index := 0#32
  ![0, v490.toNat, 0]
@[reducible] def k0_t14_loop : Scf.Loop 32 :=
  let c0_i32_555 : BitVec 32 := 0#32
  let c16_i32_556 : BitVec 32 := 16#32
  let v446 : BitVec 32 := Scalar.addi c0_i32_555 c16_i32_556
  let c1_i32_557 : BitVec 32 := 1#32
  ⟨c0_i32_555, v446, c1_i32_557⟩
def k0_off16 (k0_t14 : Fin k0_t14_loop.trips) : Fin 3 → Nat :=
  let c0 : Index := 0#32
  let c0_i32_555 : BitVec 32 := 0#32
  let c1_i32_557 : BitVec 32 := 1#32
  let arg14 : BitVec 32 := Scf.iv c0_i32_555 c1_i32_557 k0_t14
  let c128_i32 : BitVec 32 := 128#32
  let v489 : BitVec 32 := Scalar.muli arg14 c128_i32
  let v490 : Index := Scalar.indexCast v489
  let c0_607 : Index := 0#32
  ![0, v490.toNat, 0]
@[reducible] def k0_t15_loop : Scf.Loop 32 :=
  let c0_i32_579 : BitVec 32 := 0#32
  let c16_i32_580 : BitVec 32 := 16#32
  let v467 : BitVec 32 := Scalar.addi c0_i32_579 c16_i32_580
  let c1_i32_581 : BitVec 32 := 1#32
  ⟨c0_i32_579, v467, c1_i32_581⟩
def k0_off17 (k0_t15 : Fin k0_t15_loop.trips) : Fin 3 → Nat :=
  let c0 : Index := 0#32
  let c0_i32_579 : BitVec 32 := 0#32
  let c1_i32_581 : BitVec 32 := 1#32
  let arg14 : BitVec 32 := Scf.iv c0_i32_579 c1_i32_581 k0_t15
  let c128_i32 : BitVec 32 := 128#32
  let v489 : BitVec 32 := Scalar.muli arg14 c128_i32
  let v490 : Index := Scalar.indexCast v489
  let c0_607 : Index := 0#32
  ![0, v490.toNat, 0]
@[reducible] def k0_t16_loop : Scf.Loop 32 :=
  let c0_i32_603 : BitVec 32 := 0#32
  let c16_i32_604 : BitVec 32 := 16#32
  let v488 : BitVec 32 := Scalar.addi c0_i32_603 c16_i32_604
  let c1_i32_605 : BitVec 32 := 1#32
  ⟨c0_i32_603, v488, c1_i32_605⟩
def k0_off18 (k0_t16 : Fin k0_t16_loop.trips) : Fin 3 → Nat :=
  let c0 : Index := 0#32
  let c0_i32_603 : BitVec 32 := 0#32
  let c1_i32_605 : BitVec 32 := 1#32
  let arg14 : BitVec 32 := Scf.iv c0_i32_603 c1_i32_605 k0_t16
  let c128_i32 : BitVec 32 := 128#32
  let v489 : BitVec 32 := Scalar.muli arg14 c128_i32
  let v490 : Index := Scalar.indexCast v489
  let c0_607 : Index := 0#32
  ![0, v490.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S4x2048x4096 : Shape := ⟨3, ![4, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S4x32x2048x2048 : Shape := ⟨4, ![4, 32, 2048, 2048]⟩
abbrev S1x1x2048x2048 : Shape := ⟨4, ![1, 1, 2048, 2048]⟩
abbrev S4x32x2048 : Shape := ⟨3, ![4, 32, 2048]⟩
abbrev S4x32x2048x1 : Shape := ⟨4, ![4, 32, 2048, 1]⟩
abbrev S1x1x2048x1 : Shape := ⟨4, ![1, 1, 2048, 1]⟩
abbrev S4x32x128x2048 : Shape := ⟨4, ![4, 32, 128, 2048]⟩

abbrev nBuf : Space → Nat
  | .hbm => 124
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4x2048x32x128, .f32⟩
  | .hbm, ⟨3, _⟩ => ⟨S4x2048x32x128, .f32⟩
  | .hbm, ⟨4, _⟩ => ⟨S4096x1024, .f32⟩
  | .hbm, ⟨5, _⟩ => ⟨S4x2048x4096, .f32⟩
  | .hbm, ⟨6, _⟩ => ⟨S4x2048x32x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S_, .i32⟩
  | .hbm, ⟨51, _⟩ => ⟨S1x2048, .i32⟩
  | .hbm, ⟨52, _⟩ => ⟨S1x2048, .i1⟩
  | .hbm, ⟨53, _⟩ => ⟨S2048x2048, .i1⟩
  | .hbm, ⟨54, _⟩ => ⟨S2048x2048, .i1⟩
  | .hbm, ⟨55, _⟩ => ⟨S2048x2048, .i32⟩
  | .hbm, ⟨56, _⟩ => ⟨S2048x2048, .i32⟩
  | .hbm, ⟨57, _⟩ => ⟨S2048x2048, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x2048, .i32⟩
  | .hbm, ⟨65, _⟩ => ⟨S2048x2048, .i32⟩
  | .hbm, ⟨66, _⟩ => ⟨S_, .i32⟩
  | .hbm, ⟨67, _⟩ => ⟨S2048x2048, .i32⟩
  | .hbm, ⟨68, _⟩ => ⟨S2048x2048, .i1⟩
  | .hbm, ⟨69, _⟩ => ⟨S_, .i32⟩
  | .hbm, ⟨70, _⟩ => ⟨S2048x2048, .i32⟩
  | .hbm, ⟨71, _⟩ => ⟨S2048x2048, .i1⟩
  | .hbm, ⟨72, _⟩ => ⟨S_, .i32⟩
  | .hbm, ⟨73, _⟩ => ⟨S_, .i1⟩
  | .hbm, ⟨74, _⟩ => ⟨S2048x2048, .i1⟩
  | .hbm, ⟨75, _⟩ => ⟨S2048x2048, .i1⟩
  | .hbm, ⟨76, _⟩ => ⟨S2048x2048, .i1⟩
  | .hbm, ⟨77, _⟩ => ⟨S2048x2048, .i32⟩
  | .hbm, ⟨78, _⟩ => ⟨S2048x2048, .i32⟩
  | .hbm, ⟨79, _⟩ => ⟨S2048x2048, .i32⟩
  | .hbm, ⟨80, _⟩ => ⟨S_, .i32⟩
  | .hbm, ⟨81, _⟩ => ⟨S2048x2048, .i32⟩
  | .hbm, ⟨82, _⟩ => ⟨S2048x2048, .i1⟩
  | .hbm, ⟨83, _⟩ => ⟨S2048x2048, .i1⟩
  | .hbm, ⟨84, _⟩ => ⟨S4x32x2048x2048, .f32⟩
  | .hbm, ⟨85, _⟩ => ⟨S_, .f32⟩
  | .hbm, ⟨86, _⟩ => ⟨S_, .f32⟩
  | .hbm, ⟨87, _⟩ => ⟨S4x32x2048x2048, .f32⟩
  | .hbm, ⟨88, _⟩ => ⟨S4x32x2048x2048, .f32⟩
  | .hbm, ⟨89, _⟩ => ⟨S1x1x2048x2048, .i1⟩
  | .hbm, ⟨90, _⟩ => ⟨S_, .f32⟩
  | .hbm, ⟨91, _⟩ => ⟨S_, .f32⟩
  | .hbm, ⟨92, _⟩ => ⟨S4x32x2048x2048, .i1⟩
  | .hbm, ⟨93, _⟩ => ⟨S4x32x2048x2048, .f32⟩
  | .hbm, ⟨94, _⟩ => ⟨S4x32x2048x2048, .f32⟩
  | .hbm, ⟨95, _⟩ => ⟨S_, .f32⟩
  | .hbm, ⟨96, _⟩ => ⟨S4x32x2048, .f32⟩
  | .hbm, ⟨97, _⟩ => ⟨S4x32x2048x1, .f32⟩
  | .hbm, ⟨98, _⟩ => ⟨S4x32x2048x2048, .f32⟩
  | .hbm, ⟨99, _⟩ => ⟨S4x32x2048x2048, .f32⟩
  | .hbm, ⟨100, _⟩ => ⟨S4x32x2048x2048, .f32⟩
  | .hbm, ⟨101, _⟩ => ⟨S_, .i1⟩
  | .hbm, ⟨102, _⟩ => ⟨S2048, .i1⟩
  | .hbm, ⟨103, _⟩ => ⟨S1x1x2048x1, .i1⟩
  | .hbm, ⟨104, _⟩ => ⟨S_, .f32⟩
  | .hbm, ⟨105, _⟩ => ⟨S4x32x2048, .f32⟩
  | .hbm, ⟨106, _⟩ => ⟨S4x32x2048x1, .f32⟩
  | .hbm, ⟨107, _⟩ => ⟨S_, .f32⟩
  | .hbm, ⟨108, _⟩ => ⟨S_, .f32⟩
  | .hbm, ⟨109, _⟩ => ⟨S4x32x2048x1, .i1⟩
  | .hbm, ⟨110, _⟩ => ⟨S4x32x2048x1, .f32⟩
  | .hbm, ⟨111, _⟩ => ⟨S4x32x2048x1, .f32⟩
  | .hbm, ⟨112, _⟩ => ⟨S4x32x2048x2048, .f32⟩
  | .hbm, ⟨113, _⟩ => ⟨S4x32x2048x2048, .f32⟩
  | .hbm, ⟨114, _⟩ => ⟨S1x1x2048x1, .i1⟩
  | .hbm, ⟨115, _⟩ => ⟨S_, .f32⟩
  | .hbm, ⟨116, _⟩ => ⟨S_, .f32⟩
  | .hbm, ⟨117, _⟩ => ⟨S4x32x2048x2048, .i1⟩
  | .hbm, ⟨118, _⟩ => ⟨S4x32x2048x2048, .f32⟩
  | .hbm, ⟨119, _⟩ => ⟨S4x32x2048x2048, .f32⟩
  | .hbm, ⟨120, _⟩ => ⟨S4x32x128x2048, .f32⟩
  | .hbm, ⟨121, _⟩ => ⟨S4x2048x32x128, .f32⟩
  | .hbm, ⟨122, _⟩ => ⟨S4x2048x4096, .f32⟩
  | .hbm, ⟨123, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_cst_4 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v27 : Ref sig .tc := ⟨.hbm, 94, rfl⟩
abbrev main_cst_5 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_c_6 : Ref sig .tc := ⟨.hbm, 101, rfl⟩
abbrev main_v33 : Ref sig .tc := ⟨.hbm, 102, rfl⟩
abbrev main_v34 : Ref sig .tc := ⟨.hbm, 103, rfl⟩
abbrev main_cst_7 : Ref sig .tc := ⟨.hbm, 104, rfl⟩
abbrev main_v35 : Ref sig .tc := ⟨.hbm, 105, rfl⟩
abbrev main_v36 : Ref sig .tc := ⟨.hbm, 106, rfl⟩
abbrev main_cst_8 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_cst_9 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩

abbrev nD : Nat := 1
abbrev τ : Topo := Topo.v7x

variable {F : FTy → Type} [FloatOps F]
-- ==== Proof.Prog.lean ====
/-
# The kernel's program, written once per shape

The printed kernel has sixteen counted loops (four groups of heads, four pairs of heads in each) and
the same six statements before each of them. Here the same program is written with ONE loop body
(`trip`) and ONE stretch (`half`) — over the weight block it reads and the pair of heads it works on —
and the printed body is shown to be that program (`body_eq`), by definitional unfolding.
-/
module

public import proofs.«01_k».proof.Proof.Gen.KernelIdeal.Skeleton
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F] [Named F]

/-! ## The buffers -/

abbrev xM : Memref sig .tc .vmem S1x2048x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x2048x1024 .f32 := Memref.whole cc0_stg3_0
abbrev kH : Memref sig .tc .hbm S4x2048x32x128 .f32 := Memref.whole main_arg2
abbrev vH : Memref sig .tc .hbm S4x2048x32x128 .f32 := Memref.whole main_arg3
abbrev commM : Memref sig .tc .vmem S2x2x1024x1024 .f32 := Memref.whole cc0_scratch0
abbrev kM : Memref sig .tc .vmem S2048x2x128 .f32 := Memref.whole cc0_scratch1
abbrev vM : Memref sig .tc .vmem S2048x2x128 .f32 := Memref.whole cc0_scratch2
abbrev ctxM : Memref sig .tc .vmem S128x256 .f32 := Memref.whole cc0_scratch3

theorem inb_comm : ∀ s j : Fin 2, ∀ a, (![s.val, j.val, 0, 0] : Fin 4 → Nat) a + S1x1x1024x1024.size a ≤ S2x2x1024x1024.size a := by decide
/-- Piece `j` (0 the query weights, 1 the output weights) of slot `s` of the ring's buffer. -/
abbrev piece (s j : Fin 2) : Memref sig .tc .vmem S1024x1024 .f32 :=
  (commM.slice (Rect.unit (s := S2x2x1024x1024) ![s.val, j.val, 0, 0] S1x1x1024x1024.size (inb_comm s j)) (fun _ => rfl)).squeeze S1024x1024 squeezes_S1x1x1024x1024_S1024x1024

theorem inb_sem : ∀ (h : Fin 3) (j : Fin 2), ∀ a, (![h.val, j.val] : Fin 2 → Nat) a + S1x1.size a ≤ S3x2.size a := by decide
/-- The semaphores of hop `h`'s copy of piece `j`, on the sender and on the receiver. -/
abbrev sendS (h : Fin 3) (j : Fin 2) : DmaSem sig :=
  ((cc0_scratch4.slice (Rect.unit (s := S3x2) ![h.val, j.val] S1x1.size (inb_sem h j)) : DmaSems sig S1x1).squeeze S_ squeezes_S1x1_S_ : DmaSems sig S_).sem
abbrev recvS (h : Fin 3) (j : Fin 2) : DmaSem sig :=
  ((cc0_scratch5.slice (Rect.unit (s := S3x2) ![h.val, j.val] S1x1.size (inb_sem h j)) : DmaSems sig S1x1).squeeze S_ squeezes_S1x1_S_ : DmaSems sig S_).sem
/-- The semaphores of the local copies: of the keys, of the values. -/
abbrev kS : DmaSem sig := ((cc0_scratch6.slice (Rect.unit (s := S2) ![0] S1.size inb_S2_S1_0) : DmaSems sig S1).squeeze S_ squeezes_S1_S_ : DmaSems sig S_).sem
abbrev vS : DmaSem sig := ((cc0_scratch6.slice (Rect.unit (s := S2) ![1] S1.size inb_S2_S1_1) : DmaSems sig S1).squeeze S_ squeezes_S1_S_ : DmaSems sig S_).sem
/-- The runtime's barrier semaphore and the kernel's credit semaphore. -/
abbrev barS : Sem sig := (SemArray.scalar (sig.barrier 0 rfl) : Sems sig S_).sem
abbrev credS : Sem sig := cc0_scratch7.sem

/-! ## One trip -/

theorem inb_cols0 : ∀ o : Fin 4, ∀ a, (![0, 256 * o.val] : Fin 2 → Nat) a + S1024x128.size a ≤ S1024x1024.size a := by decide
theorem inb_cols1 : ∀ o : Fin 4, ∀ a, (![0, 256 * o.val + 128] : Fin 2 → Nat) a + S1024x128.size a ≤ S1024x1024.size a := by decide
theorem inb_rows : ∀ o : Fin 4, ∀ a, (![256 * o.val, 0] : Fin 2 → Nat) a + S256x1024.size a ≤ S1024x1024.size a := by decide

/-- The rows of one trip's chunk of queries; the columns of a head's query weights; the rows of a pair's output weights. -/
abbrev qR (t : Fin k0_t1_loop.trips) : Rect S1x2048x1024 := Rect.unit (s := S1x2048x1024) (k0_off2 t) S1x128x1024.size (k0_off2_inb t)
abbrev colR0 (o : Fin 4) : Rect S1024x1024 := Rect.unit (s := S1024x1024) ![0, 256 * o.val] S1024x128.size (inb_cols0 o)
abbrev colR1 (o : Fin 4) : Rect S1024x1024 := Rect.unit (s := S1024x1024) ![0, 256 * o.val + 128] S1024x128.size (inb_cols1 o)
abbrev rowR (o : Fin 4) : Rect S1024x1024 := Rect.unit (s := S1024x1024) ![256 * o.val, 0] S256x1024.size (inb_rows o)
abbrev kvR0 : Rect S2048x2x128 := Rect.unit (s := S2048x2x128) ![0, 0, 0] S2048x1x128.size inb_S2048x2x128_S2048x1x128_0_0_0
abbrev kvR1 : Rect S2048x2x128 := Rect.unit (s := S2048x2x128) ![0, 1, 0] S2048x1x128.size inb_S2048x2x128_S2048x1x128_0_1_0
abbrev ctxR0 : Rect S128x256 := Rect.unit (s := S128x256) ![0, 0] S128x128.size inb_S128x256_S128x128_0_0
abbrev ctxR1 : Rect S128x256 := Rect.unit (s := S128x256) ![0, 128] S128x128.size inb_S128x256_S128x128_0_128
abbrev ctxR : Rect S128x256 := Rect.unit (s := S128x256) ![0, 0] S128x256.size inb_S128x256_S128x256_0_0

/-- The word of the first row of trip `t`'s chunk. -/
abbrev qWord (t : Fin k0_t1_loop.trips) : BitVec 32 := Scalar.muli (Scf.iv 0#32 1#32 t) 128#32

/-- One head of one chunk: its attention output, from the chunk's rows, the head's query weights, keys and values.
    The device's own weights are read with a cast to the shape they have already (`own`). -/
def headOut (own : Bool) (w : BitVec 32) (x : Vec F S1x128x1024 .f32) (wq : Vec F S1024x128 .f32) (k v : Vec F S2048x1x128 .f32) : FVec F S128x128 .f32 :=
  k0_pay7 (k0_pay6 (match own with | true => k0_pay4 x wq k | false => k0_pay201 x wq k) (k0_pay9 w) (iota .tc S128x2048 32 [1] iota_S128x2048_d1_w32) 64#32) v

/-- The chunk's product with the pair's output weights, stored (the first pair of all) and added (the others). -/
def outFirst (ctx : Vec F S128x256 .f32) (wo : Vec F S256x1024 .f32) : FVec F S1x128x1024 .f32 := k0_pay216 ctx wo
def outAcc (own : Bool) (ctx : Vec F S128x256 .f32) (wo : Vec F S256x1024 .f32) (y : Vec F S1x128x1024 .f32) : FVec F S1x128x1024 .f32 :=
  match own with
  | true => k0_pay218 ctx wo y
  | false => k0_pay2 ctx wo y

/-- One trip up to the load of the output weights: the two heads' outputs side by side in `ctxM`. -/
def trip (own first : Bool) (wq wo : Memref sig .tc .vmem S1024x1024 .f32) (o : Fin 4) (t : Fin k0_t1_loop.trips) (_ : Unit) :
    Prog (TpuEff nD τ sig (Elt F) Λ₀ .tc) Unit := do
  let x ← Prog.lift (.load xM (qR t).toLoadRect (View.loadsAt_vmem h_S1x128x1024))
  let q0 ← Prog.lift (.load wq (colR0 o).toLoadRect (View.loadsAt_vmem h_S1024x128))
  let k0 ← Prog.lift (.load kM kvR0.toLoadRect (View.loadsAt_vmem h_S2048x1x128))
  let v0 ← Prog.lift (.load vM kvR0.toLoadRect (View.loadsAt_vmem h_S2048x1x128))
  let _ ← Prog.lift (.load ctxM ctxR0.toLoadRect (View.loadsAt_vmem h_S128x128))
  Prog.lift (.store ctxM ctxR0 (headOut own (qWord t) x q0 k0 v0) Finset.univ (View.stores_vmem_bits_univ h_S128x128 rfl) (.inl rfl))
  let q1 ← Prog.lift (.load wq (colR1 o).toLoadRect (View.loadsAt_vmem h_S1024x128))
  let k1 ← Prog.lift (.load kM kvR1.toLoadRect (View.loadsAt_vmem h_S2048x1x128))
  let v1 ← Prog.lift (.load vM kvR1.toLoadRect (View.loadsAt_vmem h_S2048x1x128))
  let _ ← Prog.lift (.load ctxM ctxR1.toLoadRect (View.loadsAt_vmem h_S128x128))
  Prog.lift (.store ctxM ctxR1 (headOut own (qWord t) x q1 k1 v1) Finset.univ (View.stores_vmem_bits_univ h_S128x128 rfl) (.inl rfl))
  let ctx ← Prog.lift (.load ctxM ctxR.toLoadRect (View.loadsAt_vmem h_S128x256))
  let w ← Prog.lift (.load wo (rowR o).toLoadRect (View.loadsAt_vmem h_S256x1024))
  match first with
  | true => do
    let _ ← Prog.lift (.load outM (qR t).toLoadRect (View.loadsAt_vmem h_S1x128x1024))
    Prog.lift (.store outM (qR t) (outFirst ctx w) Finset.univ (View.stores_vmem_bits_univ h_S1x128x1024 rfl) (.inl rfl))
    pure ()
  | false => do
    let y ← Prog.lift (.load outM (qR t).toLoadRect (View.loadsAt_vmem h_S1x128x1024))
    let _ ← Prog.lift (.load outM (qR t).toLoadRect (View.loadsAt_vmem h_S1x128x1024))
    Prog.lift (.store outM (qR t) (outAcc own ctx w y) Finset.univ (View.stores_vmem_bits_univ h_S1x128x1024 rfl) (.inl rfl))
    pure ()

/-! ## One stretch: the local copies of a pair of heads' keys and values, and the trips over the chunks -/

/-- Where the keys and the values of pair `o` of group `g` start in their arrays, for device `d`: batch
    `d`, the heads of the device whose weights the ring brings in step `g`. -/
def kvOff (d : Dev nD) (g o : Fin 4) : Fin 4 → Nat :=
  match g with
  | 0 => k0_off1 d (BitVec.ofNat 32 (2 * o.val))
  | 1 => k0_off6 d 3#32 (BitVec.ofNat 32 (2 * o.val))
  | 2 => k0_off6 d 2#32 (BitVec.ofNat 32 (2 * o.val))
  | 3 => k0_off6 d 1#32 (BitVec.ofNat 32 (2 * o.val))

theorem kvOff_eq : ∀ (d : Dev nD) (g o : Fin 4), kvOff d g o = ![d.val, 0, 8 * ((d.val + 4 - g.val) % 4) + 2 * o.val, 0] := by decide +kernel

theorem kvOff_inb : ∀ (d : Dev nD) (g o : Fin 4), ∀ a, kvOff d g o a + S1x2048x2x128.size a ≤ S4x2048x32x128.size a := by
  intro d g o a
  rw [kvOff_eq]
  revert d g o a
  decide

/-- The pair's part of a key or value array. -/
abbrev kvV (m : Memref sig .tc .hbm S4x2048x32x128 .f32) (d : Dev nD) (g o : Fin 4) : Memref sig .tc .hbm S2048x2x128 .f32 :=
  (m.slice (Rect.unit (s := S4x2048x32x128) (kvOff d g o) S1x2048x2x128.size (kvOff_inb d g o)) (fun _ => rfl)).squeeze S2048x2x128 squeezes_S1x2048x2x128_S2048x2x128

/-- The weights in use in step `g`: the device's own, then what the ring brought into slot 0, slot 1, slot 0. -/
abbrev wts (j : Fin 2) : Fin 4 → Memref sig .tc .vmem S1024x1024 .f32
  | 0 => match j with
    | 0 => wqM
    | 1 => woM
  | 1 => piece 0 j
  | 2 => piece 1 j
  | 3 => piece 0 j

/-- One stretch: pair `o` of step `g`. -/
def half (d : Dev nD) (own first : Bool) (wq wo : Memref sig .tc .vmem S1024x1024 .f32) (g o : Fin 4) : Prog (TpuEff nD τ sig (Elt F) Λ₀ .tc) Unit := do
  Prog.lift (.enqueueDma (kvV kH d g o) (.here kM) (.dma kS) ((View.wordExact_bits rfl).reshape _ _) (Memref.isWhole_whole _).wordExact ⟨Or.inl rfl, trivial⟩)
  Prog.lift (.enqueueDma (kvV vH d g o) (.here vM) (.dma vS) ((View.wordExact_bits rfl).reshape _ _) (Memref.isWhole_whole _).wordExact ⟨Or.inl rfl, trivial⟩)
  Prog.lift (.waitDma2 kS (kvV kH d g o) kM ((View.wordExact_bits rfl).reshape _ _) (Memref.isWhole_whole _).wordExact)
  Prog.lift (.waitDma2 vS (kvV vH d g o) vM ((View.wordExact_bits rfl).reshape _ _) (Memref.isWhole_whole _).wordExact)
  Scf.Loop.for k0_t1_loop k0_t1_ok ⟨⟩ (trip own first wq wo o)

/-! ## The body -/

/-- The neighbours on the ring. -/
def nxt (d : Dev nD) : Dev nD := ⟨(d.val + 1) % 4, Nat.mod_lt _ (by decide)⟩
def prv (d : Dev nD) : Dev nD := ⟨(d.val + 3) % 4, Nat.mod_lt _ (by decide)⟩

theorem dev1_eq (d : Dev nD) : (⟨k0_dev1 d, k0_dev1_lt d⟩ : Dev nD) = prv d := Fin.ext (k0_dev1_eq d)
theorem dev2_eq (d : Dev nD) : (⟨k0_dev2 d, k0_dev2_lt d⟩ : Dev nD) = nxt d := Fin.ext (k0_dev2_eq d)
theorem dev3_eq (d : Dev nD) : (⟨k0_dev3 d, k0_dev3_lt d⟩ : Dev nD) = nxt d := Fin.ext (k0_dev3_eq d)
theorem dev4_eq (d : Dev nD) : (⟨k0_dev4 d, k0_dev4_lt d⟩ : Dev nD) = nxt d := Fin.ext (k0_dev4_eq d)
theorem dev5_eq (d : Dev nD) : (⟨k0_dev5 d, k0_dev5_lt d⟩ : Dev nD) = nxt d := Fin.ext (k0_dev5_eq d)
theorem dev6_eq (d : Dev nD) : (⟨k0_dev6 d, k0_dev6_lt d⟩ : Dev nD) = nxt d := Fin.ext (k0_dev6_eq d)
theorem dev7_eq (d : Dev nD) : (⟨k0_dev7 d, k0_dev7_lt d⟩ : Dev nD) = prv d := Fin.ext (k0_dev7_eq d)
theorem dev8_eq (d : Dev nD) : (⟨k0_dev8 d, k0_dev8_lt d⟩ : Dev nD) = nxt d := Fin.ext (k0_dev8_eq d)
theorem dev9_eq (d : Dev nD) : (⟨k0_dev9 d, k0_dev9_lt d⟩ : Dev nD) = nxt d := Fin.ext (k0_dev9_eq d)

theorem wordP (s j : Fin 2) : (piece s j).view.WordExact := (View.wordExact_bits rfl).reshape _ _
theorem wordW (j : Fin 2) : (wts j 0).view.WordExact := by
  match j with
  | 0 => exact (Memref.isWhole_whole _).wordExact
  | 1 => exact (Memref.isWhole_whole _).wordExact

/-- The copy of piece `j` of hop `h` from `src` to slot `s` of device `n` (the right neighbour), and the waits: for its
    reading (`sent`) and for the left neighbour's copy of the same hop (`got`). -/
abbrev hop (n : Dev nD) (h : Fin 3) (j s : Fin 2) (src : Memref sig .tc .vmem S1024x1024 .f32) (hs : src.view.WordExact) : Prog (TpuEff nD τ sig (Elt F) Λ₀ .tc) PUnit :=
  Prog.lift (.enqueueDma src (.remote (Dev.tc n) (piece s j) (.dma (sendS h j))) (.dma (recvS h j)) hs (wordP s j) ⟨⟨rfl, Or.inl rfl⟩, trivial⟩)
abbrev sent (h : Fin 3) (j s : Fin 2) (src : Memref sig .tc .vmem S1024x1024 .f32) (hs : src.view.WordExact) : Prog (TpuEff nD τ sig (Elt F) Λ₀ .tc) PUnit :=
  Prog.lift (.waitDma2 (sendS h j) (piece s j) src (wordP s j) hs)
abbrev got (h : Fin 3) (j s : Fin 2) (src : Memref sig .tc .vmem S1024x1024 .f32) (hs : src.view.WordExact) : Prog (TpuEff nD τ sig (Elt F) Λ₀ .tc) PUnit :=
  Prog.lift (.waitDma2 (recvS h j) src (piece s j) hs (wordP s j))

/-- The four stretches of step `g`. -/
def step (d : Dev nD) (own first : Bool) (wq wo : Memref sig .tc .vmem S1024x1024 .f32) (g : Fin 4) : Prog (TpuEff nD τ sig (Elt F) Λ₀ .tc) Unit := do
  half d own first wq wo g 0
  half d own false wq wo g 1
  half d own false wq wo g 2
  half d own false wq wo g 3

theorem wqW : wqM.view.WordExact := (Memref.isWhole_whole _).wordExact
theorem woW : woM.view.WordExact := (Memref.isWhole_whole _).wordExact

/-- The meeting at the start: each neighbour is told that this device runs, and both are waited for. -/
def meet (d : Dev nD) : Prog (TpuEff nD τ sig (Elt F) Λ₀ .tc) PUnit := do
  semSignalWord (prv d) barS 1#32
  semSignalWord (nxt d) barS 1#32
  semWaitWord barS 2#32

/-- The two copies of hop `h`. -/
def pass (n₀ n₁ : Dev nD) (h : Fin 3) (s : Fin 2) (src₀ src₁ : Memref sig .tc .vmem S1024x1024 .f32) (h₀ : src₀.view.WordExact) (h₁ : src₁.view.WordExact) :
    Prog (TpuEff nD τ sig (Elt F) Λ₀ .tc) PUnit := do
  hop n₀ h 0 s src₀ h₀
  hop n₁ h 1 s src₁ h₁

/-- The waits for the two copies of hop `h`, those sent and those received. -/
def arrive (h : Fin 3) (s : Fin 2) (src₀ src₁ : Memref sig .tc .vmem S1024x1024 .f32) (h₀ : src₀.view.WordExact) (h₁ : src₁.view.WordExact) :
    Prog (TpuEff nD τ sig (Elt F) Λ₀ .tc) PUnit := do
  sent h 0 s src₀ h₀
  got h 0 s src₀ h₀
  sent h 1 s src₁ h₁
  got h 1 s src₁ h₁

/-- The device before is told that slot 0 is free again, and the device after is waited for to say so. -/
def renew (d : Dev nD) : Prog (TpuEff nD τ sig (Elt F) Λ₀ .tc) PUnit := do
  semSignalWord (prv d) credS 1#32
  semWaitWord credS 1#32

/-- The body. -/
def body : Prog (TpuEff nD τ sig (Elt F) Λ₀ .tc) PUnit := do
  let d ← Prog.lift .deviceId
  meet d
  pass ⟨k0_dev3 d, k0_dev3_lt d⟩ ⟨k0_dev4 d, k0_dev4_lt d⟩ 0 0 wqM woM wqW woW
  step d true true wqM woM 0
  arrive 0 0 wqM woM wqW woW
  pass ⟨k0_dev5 d, k0_dev5_lt d⟩ ⟨k0_dev6 d, k0_dev6_lt d⟩ 1 1 (piece 0 0) (piece 0 1) (wordP 0 0) (wordP 0 1)
  step d false false (piece 0 0) (piece 0 1) 1
  arrive 1 1 (piece 0 0) (piece 0 1) (wordP 0 0) (wordP 0 1)
  renew d
  pass ⟨k0_dev8 d, k0_dev8_lt d⟩ ⟨k0_dev9 d, k0_dev9_lt d⟩ 2 0 (piece 1 0) (piece 1 1) (wordP 1 0) (wordP 1 1)
  step d false false (piece 1 0) (piece 1 1) 2
  arrive 2 0 (piece 1 0) (piece 1 1) (wordP 1 0) (wordP 1 1)
  step d false false (piece 0 0) (piece 0 1) 3
  pure ⟨⟩

/-! ## The printed body is this one -/

section Eq

variable (d0 : Dev nD) (v2 v3 v4 : BitVec 32)

theorem t1_eq : k0_t1_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2 v3 v4
    = trip true true wqM woM 0 := rfl
theorem t2_eq : k0_t2_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip true false wqM woM 1 := rfl
theorem t3_eq : k0_t3_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip true false wqM woM 2 := rfl
theorem t4_eq : k0_t4_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip true false wqM woM 3 := rfl
theorem t5_eq : k0_t5_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip false false (piece 0 0) (piece 0 1) 0 := rfl
theorem t6_eq : k0_t6_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip false false (piece 0 0) (piece 0 1) 1 := rfl
theorem t7_eq : k0_t7_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip false false (piece 0 0) (piece 0 1) 2 := rfl
theorem t8_eq : k0_t8_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip false false (piece 0 0) (piece 0 1) 3 := rfl
theorem t9_eq : k0_t9_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2 v3
    = trip false false (piece 1 0) (piece 1 1) 0 := rfl
theorem t10_eq : k0_t10_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip false false (piece 1 0) (piece 1 1) 1 := rfl
theorem t11_eq : k0_t11_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip false false (piece 1 0) (piece 1 1) 2 := rfl
theorem t12_eq : k0_t12_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip false false (piece 1 0) (piece 1 1) 3 := rfl
theorem t13_eq : k0_t13_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip false false (piece 0 0) (piece 0 1) 0 := rfl
theorem t14_eq : k0_t14_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip false false (piece 0 0) (piece 0 1) 1 := rfl
theorem t15_eq : k0_t15_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 d0 v2
    = trip false false (piece 0 0) (piece 0 1) 2 := rfl
theorem t16_eq : k0_t16_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7
    = trip false false (piece 0 0) (piece 0 1) 3 := rfl
end Eq

set_option maxHeartbeats 4000000 in
set_option maxRecDepth 65536 in
theorem body_eq : cc0_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7 = body := by
  simp only [cc0_body_eq_skeleton, cc0_body_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, t1_eq, t2_eq, t3_eq, t4_eq, t5_eq, t6_eq, t7_eq, t8_eq, t9_eq, t10_eq, t11_eq, t12_eq, t13_eq, t14_eq, t15_eq, t16_eq, dev1_eq, dev2_eq, dev3_eq, dev4_eq, dev5_eq, dev6_eq, dev7_eq, dev8_eq, dev9_eq, bind_assoc, pure_bind, body, meet, pass, arrive, renew, hop, sent, got, step, half]
  repeat refine bind_congr fun x => ?_
  rfl

end Cert.KernelIdeal.Ring
end
-- ==== Proof.Owns.lean ====
/-
# Loads, stores and local copies of memrefs held by their contents

The library's rules step a load or a store holding the elements of a buffer. The proofs of this kernel hold a memref
by what it reads (`owns`): these are the same rules in that form.
-/
module

public import proofs.«01_k».proof.Proof.Prog
public import Idealize.ShloMosaic.Lib.Memref
public import Idealize.ShloMosaic.Lib.Transfers
public import Idealize.ShloMosaic.Lib.Tactic
public import Idealize.ShloMosaic.Lib.Pointwise.Index

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig Unit (Elt F) ℕ U ℕ

variable (𝒱 : Variants) (bd : Option 𝒱.V) (c : Dev nD)

section Access

variable {s : Shape} {e : EltTy} {α : Type}

/-- Owning a memref is owning the elements under it, at some contents it reads as said. -/
theorem owns_iff {sp : Space} (m : Memref sig .tc sp s e) (q : PosShare TreeShare) (X : s.Idx → Elt F e) :
    (owns (c : Thread nD τ) m q X : sProp 𝕄) = iprop(∃ f, ⌜m.view.read (Elt F) f = X⌝ ∗ (m.view.loc (c : Thread nD τ) ↦[m.view.set]{q} f)) := rfl

/-- A load of a rectangle continues at that part of the contents. -/
theorem load_owns {m : Memref sig .tc .vmem s e} {r : Rect s} {hl : m.view.LoadsAt r.toLoadRect}
    {k : (r.shape.Idx → Elt F e) → Prog (TpuEff nD τ sig (Elt F) Λ₀ .tc) α} {q : PosShare TreeShare} {X : s.Idx → Elt F e} {Q : α → sProp 𝕄} :
    (owns (c : Thread nD τ) m q X : sProp 𝕄)
      ⊢ iprop((owns (c : Thread nD τ) m q X -∗ wp frame (wpE defs₀ 𝒱 (c : Thread nD τ) bd) Set.univ (k (fun j => X (r.emb j))) Q)
        -∗ wp frame (wpE defs₀ 𝒱 (c : Thread nD τ) bd) Set.univ (.op (.load m r.toLoadRect hl) k) Q) := by
  rw [owns_iff]
  iintro ⟨%f, %hf, H⟩ Hk
  iapply (wp_load 𝒱 (c : Thread nD τ) bd Set.univ (m := m) (m.view.setOn_subset_set _)) $$ H
  iintro H
  subst hf
  iapply Hk
  iexists f
  isplitr; · ipureintro; rfl
  iexact H

/-- A store of a rectangle lays the payload over the contents. -/
theorem store_owns {m : Memref sig .tc .vmem s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {X : s.Idx → Elt F e} {Q : α → sProp 𝕄} :
    (owns (c : Thread nD τ) m fullShare X : sProp 𝕄)
      ⊢ iprop((owns (c : Thread nD τ) m fullShare (r.overlay X w) -∗ wp frame (wpE defs₀ 𝒱 (c : Thread nD τ) bd) Set.univ (k ⟨⟩) Q)
        -∗ wp frame (wpE defs₀ 𝒱 (c : Thread nD τ) bd) Set.univ (.op (.store m r w Finset.univ hx hm) k) Q) := by
  rw [owns_iff]
  iintro ⟨%f, %hf, H⟩ Hk
  iapply (wp_store 𝒱 (c : Thread nD τ) bd Set.univ (m := m) (r := r) (S := m.view.set) ((View.setOn_subset_set _ _).trans (View.set_slice_subset _ _))) $$ H
  iintro H
  iapply Hk
  rw [owns_iff]
  iexists _
  isplitr [H]
  rotate_left
  · iexact H
  ipureintro
  subst hf
  funext j
  by_cases hj : j ∈ r.set
  · rw [← Rect.map_emb_univ] at hj
    obtain ⟨i, -, rfl⟩ := Finset.mem_map.mp hj
    rw [Rect.overlay_emb]
    exact View.read_write_of_mem (v := m.access r) f w (Finset.mem_univ i)
  · rw [Rect.overlay_of_not_mem _ _ _ hj, View.read_apply, View.read_apply]
    refine congrArg _ (View.write_of_not_mem (v := m.access r) _ _ _ ?_)
    show m.view.emb j ∉ (m.view.slice r).set
    rw [View.set_slice]
    intro h
    obtain ⟨i, hi, he⟩ := Finset.mem_map.mp h
    exact hj (m.view.emb.injective he ▸ hi)

end Access

end Cert.KernelIdeal.Ring
end
-- ==== Proof.Trip.lean ====
/-
# One trip and one loop, by contents

What one trip of the loops stores, as a function of the contents it reads (`chunk`), and what the sixteen trips of a
loop leave in the output (`stretch`): every row's chunk rewritten once.
-/
module

public import proofs.«01_k».proof.Proof.Owns

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The values -/

/-- Two heads' outputs side by side. -/
def pair (a b : FVec F S128x128 .f32) : FVec F S128x256 .f32 := fun j =>
  if h : (j 1).val < 128 then a (ix2 (n0 := 128) (n1 := 128) ⟨(j 0).val, (j 0).isLt⟩ ⟨(j 1).val, h⟩)
  else b (ix2 (n0 := 128) (n1 := 128) ⟨(j 0).val, (j 0).isLt⟩ ⟨(j 1).val - 128, by have h1 : (j 1).val < 256 := (j 1).isLt; omega⟩)

theorem pair_overlay (C : FVec F S128x256 .f32) (a b : FVec F S128x128 .f32) : (fun j => ctxR1.overlay (ctxR0.overlay C a) b (ctxR.emb j)) = pair a b := by
  funext j
  have h1 : (j 1).val < 256 := (j 1).isLt
  unfold pair
  split
  next h =>
    have e : ctxR.emb j = ctxR0.emb (ix2 (n0 := 128) (n1 := 128) ⟨(j 0).val, (j 0).isLt⟩ ⟨(j 1).val, h⟩) := by
      funext q
      match q with
      | 0 => exact Fin.ext (by simp [Rect.emb, Rect.unit, ix2])
      | 1 => exact Fin.ext (by simp [Rect.emb, Rect.unit, ix2])
    rw [Rect.overlay_of_not_mem, e, Rect.overlay_emb]
    rw [Rect.mem_set_unit]
    intro h2
    have h3 : 128 ≤ (ctxR.emb j 1).val := (h2 1).1
    rw [e] at h3
    simp [Rect.emb, Rect.unit, ix2] at h3
    omega
  next h =>
    have e : ctxR.emb j = ctxR1.emb (ix2 (n0 := 128) (n1 := 128) ⟨(j 0).val, (j 0).isLt⟩ ⟨(j 1).val - 128, by omega⟩) := by
      funext q
      match q with
      | 0 => exact Fin.ext (by simp [Rect.emb, Rect.unit, ix2])
      | 1 => exact Fin.ext (by simp [Rect.emb, Rect.unit, ix2]; omega)
    rw [e, Rect.overlay_emb]

/-- What the trip of chunk `t` stores in the output, from what it reads: the rows, the weights' columns and rows
    of the pair `o`, the keys and values of the pair, and — unless it is the `first` — what the chunk held. -/
def chunk (own first : Bool) (o : Fin 4) (x : FVec F S1x2048x1024 .f32) (wq wo : FVec F S1024x1024 .f32) (k v : FVec F S2048x2x128 .f32)
    (t : Fin k0_t1_loop.trips) (y : FVec F S1x128x1024 .f32) : FVec F S1x128x1024 .f32 :=
  let ctx := pair (headOut own (qWord t) (fun j => x ((qR t).emb j)) (fun j => wq ((colR0 o).emb j)) (fun j => k (kvR0.emb j)) (fun j => v (kvR0.emb j)))
    (headOut own (qWord t) (fun j => x ((qR t).emb j)) (fun j => wq ((colR1 o).emb j)) (fun j => k (kvR1.emb j)) (fun j => v (kvR1.emb j)))
  match first with
  | true => outFirst ctx (fun j => wo ((rowR o).emb j))
  | false => outAcc own ctx (fun j => wo ((rowR o).emb j)) y

/-- The chunk a row lies in, and its place there. -/
def chunkOf (i : S1x2048x1024.Idx) : Fin k0_t1_loop.trips := ⟨(i 1).val / 128, by
  have h1 : (i 1).val < 2048 := (i 1).isLt
  have h2 : k0_t1_loop.trips = 16 := by decide
  omega⟩
def locOf (i : S1x2048x1024.Idx) : S1x128x1024.Idx :=
  ix3 (n0 := 1) (n1 := 128) (n2 := 1024) ⟨(i 0).val, (i 0).isLt⟩ ⟨(i 1).val % 128, Nat.mod_lt _ (by decide)⟩ ⟨(i 2).val, (i 2).isLt⟩

theorem emb_locOf (i : S1x2048x1024.Idx) : (qR (chunkOf i)).emb (locOf i) = i := by
  funext q
  match q with
  | 0 => exact Fin.ext (by simp [Rect.emb, Rect.unit, locOf, ix3, k0_off2_eq])
  | 1 => exact Fin.ext (by simp [Rect.emb, Rect.unit, locOf, ix3, k0_off2_eq, chunkOf]; omega)
  | 2 => exact Fin.ext (by simp [Rect.emb, Rect.unit, locOf, ix3, k0_off2_eq])

/-- What one stretch's trips leave in the output that held `Y`. -/
def stretch (own first : Bool) (o : Fin 4) (x : FVec F S1x2048x1024 .f32) (wq wo : FVec F S1024x1024 .f32) (k v : FVec F S2048x2x128 .f32)
    (Y : FVec F S1x2048x1024 .f32) : FVec F S1x2048x1024 .f32 := fun i =>
  chunk own first o x wq wo k v (chunkOf i) (fun j => Y ((qR (chunkOf i)).emb j)) (locOf i)

/-- The output after `n` of a stretch's trips: the first `n` chunks rewritten. -/
def part (Z Y : FVec F S1x2048x1024 .f32) (n : ℕ) : FVec F S1x2048x1024 .f32 := fun i =>
  if (i 1).val < 128 * n then Z i else Y i

theorem part_zero (Z Y : FVec F S1x2048x1024 .f32) : part Z Y 0 = Y := by
  funext i
  exact if_neg (by omega)

theorem part_all (Z Y : FVec F S1x2048x1024 .f32) : part Z Y k0_t1_loop.trips = Z := by
  funext i
  have h1 : (i 1).val < 2048 := (i 1).isLt
  have h2 : k0_t1_loop.trips = 16 := by decide
  exact if_pos (by omega)

theorem qR_row (t : Fin k0_t1_loop.trips) (j : S1x128x1024.Idx) : ((qR t).emb j 1).val = 128 * t.val + (j 1).val := by
  simp [Rect.emb, Rect.unit, k0_off2_eq]

theorem part_succ (own first : Bool) (o : Fin 4) (x : FVec F S1x2048x1024 .f32) (wq wo : FVec F S1024x1024 .f32) (k v : FVec F S2048x2x128 .f32)
    (Y : FVec F S1x2048x1024 .f32) (t : Fin k0_t1_loop.trips) :
    (qR t).overlay (part (stretch own first o x wq wo k v Y) Y t.val)
        (chunk own first o x wq wo k v t (fun j => part (stretch own first o x wq wo k v Y) Y t.val ((qR t).emb j)))
      = part (stretch own first o x wq wo k v Y) Y (t.val + 1) := by
  have e : (fun j : S1x128x1024.Idx => part (stretch own first o x wq wo k v Y) Y t.val ((qR t).emb j)) = fun j : S1x128x1024.Idx => Y ((qR t).emb j) := by
    funext j
    exact if_neg (by rw [qR_row]; omega)
  rw [e]
  funext i
  by_cases hi : chunkOf i = t
  · subst hi
    have h := Rect.overlay_emb (qR (chunkOf i)) (part (stretch own first o x wq wo k v Y) Y (chunkOf i).val)
      (chunk own first o x wq wo k v (chunkOf i) (fun j => Y ((qR (chunkOf i)).emb j))) (locOf i)
    rw [emb_locOf] at h
    refine h.trans (if_pos ?_).symm
    simp only [chunkOf]
    omega
  · have hv : (i 1).val / 128 ≠ t.val := fun h => hi (Fin.ext h)
    rw [Rect.overlay_of_not_mem]
    · unfold part
      by_cases h : (i 1).val < 128 * t.val
      · rw [if_pos h, if_pos (by omega)]
      · rw [if_neg h, if_neg (by omega)]
    · rw [Rect.mem_set_unit]
      intro h
      have h1 := h 1
      rw [k0_off2_eq] at h1
      simp at h1
      omega

/-! ## The trip -/

variable {U : Type} [URA U]

local notation "𝕄" => MT nD τ sig Unit (Elt F) ℕ U ℕ

variable (𝒱 : Variants) (bd : Option 𝒱.V) (c : Dev nD)

/-- What a trip reads, and its two scratches. -/
abbrev reads (q : PosShare TreeShare) (wq wo : Memref sig .tc .vmem S1024x1024 .f32) (x : FVec F S1x2048x1024 .f32) (Wq Wo : FVec F S1024x1024 .f32) (k v : FVec F S2048x2x128 .f32) : sProp 𝕄 :=
  iprop(owns (c : Thread nD τ) xM fullShare x ∗ owns (c : Thread nD τ) wq q Wq ∗ owns (c : Thread nD τ) wo q Wo
    ∗ owns (c : Thread nD τ) kM fullShare k ∗ owns (c : Thread nD τ) vM fullShare v ∗ (∃ C, owns (c : Thread nD τ) ctxM fullShare C))

theorem trip_spec (own first : Bool) (q : PosShare TreeShare) (wq wo : Memref sig .tc .vmem S1024x1024 .f32) (o : Fin 4)
    (x : FVec F S1x2048x1024 .f32) (Wq Wo : FVec F S1024x1024 .f32) (k v : FVec F S2048x2x128 .f32) (Y : FVec F S1x2048x1024 .f32) (t : Fin k0_t1_loop.trips) :
    iprop(reads c q wq wo x Wq Wo k v ∗ owns (c : Thread nD τ) outM fullShare Y)
      ⊢ (wp frame (wpE (defs₀ (F := F)) 𝒱 (c : Thread nD τ) bd) Set.univ (trip own first wq wo o t ())
          (fun _ => iprop(reads c q wq wo x Wq Wo k v
            ∗ owns (c : Thread nD τ) outM fullShare ((qR t).overlay Y (chunk own first o x Wq Wo k v t (fun j => Y ((qR t).emb j)))))) : sProp 𝕄) := by
  unfold trip reads
  simp only [Prog.bind_lift]
  iintro ⟨⟨Hx, Hq, Ho, Hk, Hv, %C, HC⟩, HY⟩
  iapply (load_owns 𝒱 bd c) $$ Hx; iintro Hx
  iapply (load_owns 𝒱 bd c) $$ Hq; iintro Hq
  iapply (load_owns 𝒱 bd c) $$ Hk; iintro Hk
  iapply (load_owns 𝒱 bd c) $$ Hv; iintro Hv
  iapply (load_owns 𝒱 bd c) $$ HC; iintro HC
  iapply (store_owns 𝒱 bd c) $$ HC; iintro HC
  iapply (load_owns 𝒱 bd c) $$ Hq; iintro Hq
  iapply (load_owns 𝒱 bd c) $$ Hk; iintro Hk
  iapply (load_owns 𝒱 bd c) $$ Hv; iintro Hv
  iapply (load_owns 𝒱 bd c) $$ HC; iintro HC
  iapply (store_owns 𝒱 bd c) $$ HC; iintro HC
  iapply (load_owns 𝒱 bd c) $$ HC; iintro HC
  rw [pair_overlay]
  iapply (load_owns 𝒱 bd c) $$ Ho; iintro Ho
  cases first
  · simp only []
    iapply (load_owns 𝒱 bd c) $$ HY; iintro HY
    iapply (load_owns 𝒱 bd c) $$ HY; iintro HY
    iapply (store_owns 𝒱 bd c) $$ HY; iintro HY
    rw [Prog.pure_eq_ret, wp_ret]
    imodintro
    isplitl [Hx Hq Ho Hk Hv HC]
    · isplitl [Hx]; · iexact Hx
      isplitl [Hq]; · iexact Hq
      isplitl [Ho]; · iexact Ho
      isplitl [Hk]; · iexact Hk
      isplitl [Hv]; · iexact Hv
      iexists _; iexact HC
    iexact HY
  · simp only []
    iapply (load_owns 𝒱 bd c) $$ HY; iintro HY
    iapply (store_owns 𝒱 bd c) $$ HY; iintro HY
    rw [Prog.pure_eq_ret, wp_ret]
    imodintro
    isplitl [Hx Hq Ho Hk Hv HC]
    · isplitl [Hx]; · iexact Hx
      isplitl [Hq]; · iexact Hq
      isplitl [Ho]; · iexact Ho
      isplitl [Hk]; · iexact Hk
      isplitl [Hv]; · iexact Hv
      iexists _; iexact HC
    iexact HY

/-! ## The loop -/

theorem loop_spec (own first : Bool) (q : PosShare TreeShare) (wq wo : Memref sig .tc .vmem S1024x1024 .f32) (o : Fin 4)
    (x : FVec F S1x2048x1024 .f32) (Wq Wo : FVec F S1024x1024 .f32) (k v : FVec F S2048x2x128 .f32) (Y : FVec F S1x2048x1024 .f32) {Q : Unit → sProp 𝕄} :
    iprop((reads c q wq wo x Wq Wo k v ∗ owns (c : Thread nD τ) outM fullShare Y)
        ∗ ((reads c q wq wo x Wq Wo k v ∗ owns (c : Thread nD τ) outM fullShare (stretch own first o x Wq Wo k v Y)) -∗ Q ()))
      ⊢ (wp frame (wpE (defs₀ (F := F)) 𝒱 (c : Thread nD τ) bd) Set.univ (Scf.Loop.for k0_t1_loop k0_t1_ok ⟨⟩ (trip own first wq wo o)) Q : sProp 𝕄) := by
  iintro ⟨H, HQ⟩
  iapply (Scf.wp_for frame (wpE (defs₀ (F := F)) 𝒱 (c : Thread nD τ) bd) Set.univ _ _ _ k0_t1_ok () (trip own first wq wo o)
    (fun n _ => iprop(reads c q wq wo x Wq Wo k v ∗ owns (c : Thread nD τ) outM fullShare (part (stretch own first o x Wq Wo k v Y) Y n)))
    (fun t _ => by
      have h := trip_spec (U := U) 𝒱 bd c own first q wq wo o x Wq Wo k v (part (stretch own first o x Wq Wo k v Y) Y t.val) t
      rw [part_succ] at h
      exact h))
  isplitl [H]
  · rw [part_zero]; iexact H
  · iintro %u H
    iapply HQ
    have h := part_all (stretch own first o x Wq Wo k v Y) Y
    unfold Scf.Loop.trips at h
    rw [h]
    iexact H

end Cert.KernelIdeal.Ring
end
-- ==== Proof.Half.lean ====
/-
# One stretch and one step, by contents

A stretch copies the pair's keys and values to the scratches and runs the trips; a step is the four stretches of the
weights in use. Both are stated by what the output holds before and after; the device's other debts ride along.
-/
module

public import proofs.«01_k».proof.Proof.Trip

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U] [CountersIn U]

local notation "𝕄" => MT nD τ sig Unit (Elt F) ℕ U ℕ

variable (𝒱 : Variants) (bd : Option 𝒱.V) (c : Dev nD)

/-- Contents of a buffer of device `c`. -/
abbrev BufC (c : Dev nD) (b : Ref sig .tc) : Type := Buf (Elt F) ((c : Thread nD τ).loc b)

/-- The pair's keys (values) in the array's contents. -/
abbrev kvC (m : Memref sig .tc .hbm S4x2048x32x128 .f32) (c : Dev nD) (g o : Fin 4) (f : Buf (Elt F) (m.view.loc (c : Thread nD τ))) : FVec F S2048x2x128 .f32 :=
  (kvV m c g o).view.read (Elt F) f

/-- What the output holds after the stretch of pair `o` in step `g`. -/
def afterHalf (c : Dev nD) (own first : Bool) (g o : Fin 4) (x : FVec F S1x2048x1024 .f32) (Wq Wo : FVec F S1024x1024 .f32)
    (fK : Buf (Elt F) (kH.view.loc (c : Thread nD τ))) (fV : Buf (Elt F) (vH.view.loc (c : Thread nD τ))) (Y : FVec F S1x2048x1024 .f32) : FVec F S1x2048x1024 .f32 :=
  stretch own first o x Wq Wo (kvC kH c g o fK) (kvC vH c g o fV) Y

/-- The arrays of keys and values, the scratches at any contents, and the copies' counters at zero. -/
def kit (c : Dev nD) (fK : Buf (Elt F) (kH.view.loc (c : Thread nD τ))) (fV : Buf (Elt F) (vH.view.loc (c : Thread nD τ))) : sProp 𝕄 :=
  iprop((kH.view.loc (c : Thread nD τ) ↦{fullShare} fK) ∗ (vH.view.loc (c : Thread nD τ) ↦{fullShare} fV)
    ∗ (∃ k, owns (c : Thread nD τ) kM fullShare k) ∗ (∃ v, owns (c : Thread nD τ) vM fullShare v) ∗ (∃ C, owns (c : Thread nD τ) ctxM fullShare C)
    ∗ semVal ((c : Thread nD τ), .dma kS) 0 ∗ semVal ((c : Thread nD τ), .dma vS) 0)

/-- What a stretch works with: the rows, the weights at share `q`, the output, the kit, the debts. -/
def hold (c : Dev nD) (q : PosShare TreeShare) (wq wo : Memref sig .tc .vmem S1024x1024 .f32) (x : FVec F S1x2048x1024 .f32) (Wq Wo : FVec F S1024x1024 .f32)
    (fK : Buf (Elt F) (kH.view.loc (c : Thread nD τ))) (fV : Buf (Elt F) (vH.view.loc (c : Thread nD τ))) (O : CellTallies nD τ sig Unit) (Y : FVec F S1x2048x1024 .f32) : sProp 𝕄 :=
  iprop(owns (c : Thread nD τ) xM fullShare x ∗ owns (c : Thread nD τ) wq q Wq ∗ owns (c : Thread nD τ) wo q Wo ∗ owns (c : Thread nD τ) outM fullShare Y
    ∗ kit c fK fV ∗ ∃ W, owes (c : Thread nD τ) O W)

/-- The local copies may be waited for, owing `O`. -/
def localWaits (c : Dev nD) (O : CellTallies nD τ sig Unit) : sProp 𝕄 :=
  iprop(MayWait (c : Thread nD τ) (.dma kS) () O ∗ MayWait (c : Thread nD τ) (.dma vS) () O)

instance localWaits_persistent (O : CellTallies nD τ sig Unit) : BI.Persistent (localWaits (F := F) (U := U) c O) := by unfold localWaits; infer_instance

theorem half_spec (own first : Bool) (q : PosShare TreeShare) (wq wo : Memref sig .tc .vmem S1024x1024 .f32) (g o : Fin 4)
    (x : FVec F S1x2048x1024 .f32) (Wq Wo : FVec F S1024x1024 .f32)
    (fK : Buf (Elt F) (kH.view.loc (c : Thread nD τ))) (fV : Buf (Elt F) (vH.view.loc (c : Thread nD τ)))
    (O : CellTallies nD τ sig Unit) (Y : FVec F S1x2048x1024 .f32) {α : Type} {k : Unit → Prog (TpuEff nD τ sig (Elt F) Λ₀ .tc) α} {Q : α → sProp 𝕄} :
    iprop(hold c q wq wo x Wq Wo fK fV O Y ∗ localWaits c O)
      ⊢ iprop((hold c q wq wo x Wq Wo fK fV O (afterHalf c own first g o x Wq Wo fK fV Y) -∗ wp frame (wpE (defs₀ (F := F)) 𝒱 (c : Thread nD τ) bd) Set.univ (k ()) Q)
          -∗ wp frame (wpE (defs₀ (F := F)) 𝒱 (c : Thread nD τ) bd) Set.univ (half c own first wq wo g o >>= k) Q) := by
  unfold half hold kit
  simp only [Prog.lift, Prog.bind_op, Prog.bind_ret]
  iintro ⟨⟨Hx, Hq, Ho, HY, ⟨HK, HV, ⟨%k0, Hk⟩, ⟨%v0, Hv⟩, HC, Hsk, Hsv⟩, ⟨%W, HO⟩⟩, #HM⟩ HQ
  unfold localWaits
  icases HM with ⟨#HMk, #HMv⟩
  ihave Hk2 := (Entails.of_eq (owns_iff c kM fullShare k0)) $$ Hk
  ihave Hv2 := (Entails.of_eq (owns_iff c vM fullShare v0)) $$ Hv
  icases Hk2 with ⟨%fk, -, Hk⟩
  icases Hv2 with ⟨%fv, -, Hv⟩
  ihave HK2 := (pointsTo_split_subset (Finset.subset_univ (kvV kH c g o).view.set)).1 $$ HK
  icases HK2 with ⟨HK, HKr⟩
  ihave HV2 := (pointsTo_split_subset (Finset.subset_univ (kvV vH c g o).view.set)).1 $$ HV
  icases HV2 with ⟨HV, HVr⟩
  iapply (Transfers.wp_dmaLocal countersEmb 𝒱 (c : Thread nD τ) bd (src := kvV kH c g o) (dst := kM) (sm := .dma kS) () kM.view.dmaCredit rfl (View.dmaCredit_pos _ (by decide)) subset_rfl) $$ [HK Hk Hsk]
  · isplitl [HK]; · iexact HK
    isplitl [Hk]; · iexact Hk
    iexact Hsk
  iintro HFk
  iapply (Transfers.wp_dmaLocal countersEmb 𝒱 (c : Thread nD τ) bd (src := kvV vH c g o) (dst := vM) (sm := .dma vS) () vM.view.dmaCredit rfl (View.dmaCredit_pos _ (by decide)) subset_rfl) $$ [HV Hv Hsv]
  · isplitl [HV]; · iexact HV
    isplitl [Hv]; · iexact Hv
    iexact Hsv
  iintro HFv
  iapply (Transfers.wp_waitLocalO countersEmb 𝒱 (c : Thread nD τ) bd (sem := kS) (srcw := kvV kH c g o) (dstw := kM) () rfl) $$ [HFk HO]
  · isplitl [HFk]; · iexact HFk
    isplitl [HO]; · iexact HO
    iexact HMk
  iintro ⟨⟨Hk, HK⟩, Hsk, HO⟩
  iapply (Transfers.wp_waitLocalO countersEmb 𝒱 (c : Thread nD τ) bd (sem := vS) (srcw := kvV vH c g o) (dstw := vM) () rfl) $$ [HFv HO]
  · isplitl [HFv]; · iexact HFv
    isplitl [HO]; · iexact HO
    iexact HMv
  iintro ⟨⟨Hv, HV⟩, Hsv, HO⟩
  rw [wp_bind]
  iapply (loop_spec 𝒱 bd c own first q wq wo o x Wq Wo (kvC kH c g o fK) (kvC vH c g o fV) Y)
  isplitl [Hx Hq Ho Hk Hv HC HY]
  · isplitr [HY]
    · isplitl [Hx]; · iexact Hx
      isplitl [Hq]; · iexact Hq
      isplitl [Ho]; · iexact Ho
      isplitl [Hk]
      · rw [owns_iff]; iexists _
        isplitr [Hk]
        rotate_left
        · iexact Hk
        ipureintro; exact View.read_write_univ _ _
      isplitl [Hv]
      · rw [owns_iff]; iexists _
        isplitr [Hv]
        rotate_left
        · iexact Hv
        ipureintro; exact View.read_write_univ _ _
      iexact HC
    iexact HY
  iintro ⟨⟨Hx, Hq, Ho, Hk, Hv, HC⟩, HY⟩
  iapply HQ
  isplitl [Hx]; · iexact Hx
  isplitl [Hq]; · iexact Hq
  isplitl [Ho]; · iexact Ho
  isplitl [HY]; · iexact HY
  isplitr [HO]
  · isplitl [HK HKr]
    · iapply (pointsTo_split_subset (Finset.subset_univ (kvV kH c g o).view.set)).2
      isplitl [HK] <;> iassumption
    isplitl [HV HVr]
    · iapply (pointsTo_split_subset (Finset.subset_univ (kvV vH c g o).view.set)).2
      isplitl [HV] <;> iassumption
    isplitl [Hk]; · iexists _; iexact Hk
    isplitl [Hv]; · iexists _; iexact Hv
    isplitl [HC]; · iexact HC
    isplitl [Hsk] <;> iassumption
  iexists _; iexact HO

/-- What the output holds after the four stretches of step `g`. -/
def afterStep (c : Dev nD) (own first : Bool) (g : Fin 4) (x : FVec F S1x2048x1024 .f32) (Wq Wo : FVec F S1024x1024 .f32)
    (fK : Buf (Elt F) (kH.view.loc (c : Thread nD τ))) (fV : Buf (Elt F) (vH.view.loc (c : Thread nD τ))) (Y : FVec F S1x2048x1024 .f32) : FVec F S1x2048x1024 .f32 :=
  afterHalf c own false g 3 x Wq Wo fK fV (afterHalf c own false g 2 x Wq Wo fK fV (afterHalf c own false g 1 x Wq Wo fK fV (afterHalf c own first g 0 x Wq Wo fK fV Y)))

theorem step_spec (own first : Bool) (q : PosShare TreeShare) (wq wo : Memref sig .tc .vmem S1024x1024 .f32) (g : Fin 4)
    (x : FVec F S1x2048x1024 .f32) (Wq Wo : FVec F S1024x1024 .f32)
    (fK : Buf (Elt F) (kH.view.loc (c : Thread nD τ))) (fV : Buf (Elt F) (vH.view.loc (c : Thread nD τ)))
    (O : CellTallies nD τ sig Unit) (Y : FVec F S1x2048x1024 .f32) {α : Type} {k : Unit → Prog (TpuEff nD τ sig (Elt F) Λ₀ .tc) α} {Q : α → sProp 𝕄} :
    iprop(hold c q wq wo x Wq Wo fK fV O Y ∗ localWaits c O)
      ⊢ iprop((hold c q wq wo x Wq Wo fK fV O (afterStep c own first g x Wq Wo fK fV Y) -∗ wp frame (wpE (defs₀ (F := F)) 𝒱 (c : Thread nD τ) bd) Set.univ (k ()) Q)
          -∗ wp frame (wpE (defs₀ (F := F)) 𝒱 (c : Thread nD τ) bd) Set.univ (step c own first wq wo g >>= k) Q) := by
  unfold step
  simp only [bind_assoc]
  iintro ⟨H, #HM⟩ HQ
  iapply (half_spec 𝒱 bd c own first q wq wo g 0 x Wq Wo fK fV O Y) $$ [H]
  · isplitl [H]; · iexact H
    iexact HM
  iintro H
  iapply (half_spec 𝒱 bd c own false q wq wo g 1 x Wq Wo fK fV O _) $$ [H]
  · isplitl [H]; · iexact H
    iexact HM
  iintro H
  iapply (half_spec 𝒱 bd c own false q wq wo g 2 x Wq Wo fK fV O _) $$ [H]
  · isplitl [H]; · iexact H
    iexact HM
  iintro H
  iapply (half_spec 𝒱 bd c own false q wq wo g 3 x Wq Wo fK fV O _) $$ [H]
  · isplitl [H]; · iexact H
    iexact HM
  iintro H
  iapply HQ
  unfold afterStep
  iexact H

end Cert.KernelIdeal.Ring
end
-- ==== Proof.Sched.lean ====
/-
# The ring's schedule

The semaphores the devices share, what each one's signals hand over, what every device owes at launch, and in which
order the waits may be made.
-/
module

public import proofs.«01_k».proof.Proof.Half
public import proofs.«01_k».proof.Proof.Gen.KernelIdeal.Launch
public import Idealize.ShloMosaic.Lib.Pipeline.Launch
public import Idealize.ShloMosaic.Lib.Pipeline.Kit
public import Idealize.ShloMosaic.Lib.MemrefSat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline's rounds, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER (F := F)).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

/-- The device `n` places before. -/
def back : ℕ → Dev nD → Dev nD
  | 0, c => c
  | n + 1, c => back n (prv c)

theorem back_succ_nxt (n : ℕ) (c : Dev nD) : back (n + 1) (nxt c) = back n c := congrArg (back n) (prv_nxt c)

/-! ## The cells -/

/-- The shared semaphores of a device: the barrier, the credit, and for hop `h` of piece `j` the sender's and the receiver's. -/
inductive Kd
  | bar | cred
  | send (h : Fin 3) (j : Fin 2)
  | recv (h : Fin 3) (j : Fin 2)
  deriving DecidableEq

def kdAll : List Kd := [.bar, .cred, .send 0 0, .send 0 1, .send 1 0, .send 1 1, .send 2 0, .send 2 1, .recv 0 0, .recv 0 1, .recv 1 0, .recv 1 1, .recv 2 0, .recv 2 1]

theorem hj_cases (P : Fin 3 → Fin 2 → Prop) (h0 : P 0 0) (h1 : P 0 1) (h2 : P 1 0) (h3 : P 1 1) (h4 : P 2 0) (h5 : P 2 1) (h : Fin 3) (j : Fin 2) : P h j := by
  fin_cases h <;> fin_cases j <;> assumption

theorem mem_kdAll (k : Kd) : k ∈ kdAll := by
  cases k with
  | bar => decide
  | cred => decide
  | send h j => revert h j; decide
  | recv h j => revert h j; decide

instance : Fintype Kd := ⟨kdAll.toFinset, fun k => List.mem_toFinset.mpr (mem_kdAll k)⟩

abbrev csem : Kd → SemLoc sig
  | .bar => .reg barS
  | .cred => .reg credS
  | .send h j => .dma (sendS h j)
  | .recv h j => .dma (recvS h j)

abbrev kcell (c : Dev nD) (k : Kd) : GSem nD τ sig := ((c : Thread nD τ), csem k)

theorem csem_inj : ∀ a b : Kd, csem a = csem b → a = b := by decide +kernel

/-- Which of them a semaphore is. -/
def kindOf (sm : SemLoc sig) : Option Kd := if h : ∃ k, csem k = sm then some h.choose else none

theorem kindOf_csem (k : Kd) : kindOf (csem k) = some k := by
  have h : ∃ k', csem k' = csem k := ⟨k, rfl⟩
  unfold kindOf
  rw [dif_pos h, csem_inj _ _ h.choose_spec]

theorem kindOf_none (sm : SemLoc sig) (h : ∀ k, csem k ≠ sm) : kindOf sm = none := dif_neg fun ⟨k, hk⟩ => h k hk

theorem kcell_inj {a b : Dev nD} {k k' : Kd} (h : kcell a k = kcell b k') : a = b ∧ k = k' :=
  ⟨congrArg (fun g : GSem nD τ sig => g.1.1) h, csem_inj _ _ (congrArg Prod.snd h)⟩

/-! ## Contents -/

/-- A copy's credit. -/
@[irreducible] def N : ℕ := (piece 0 0).view.dmaCredit
theorem N_pos : 0 < N := by unfold N; exact View.dmaCredit_pos _ (by decide)

/-- What the windows bring of the rows and of the weights. -/
def xC (c : Dev nD) : FVec F S1x2048x1024 .f32 := (win0_0.blk (0 : Fin 1)).view.read (Elt F) ((s₀ m ρ).mem ((c : Thread nD τ).loc main_arg0))
def wC (j : Fin 2) (c : Dev nD) : FVec F S1024x1024 .f32 :=
  match j with
  | 0 => (win0_1.blk (0 : Fin 1)).view.read (Elt F) ((s₀ m ρ).mem ((c : Thread nD τ).loc main_arg1))
  | 1 => (win0_2.blk (0 : Fin 1)).view.read (Elt F) ((s₀ m ρ).mem ((c : Thread nD τ).loc main_arg4))

/-- The slot hop `h` fills. -/
abbrev slot (h : Fin 3) : Fin 2 := match h with | 0 => 0 | 1 => 1 | 2 => 0

/-- A slot's piece at any contents. -/
def pieceAny (c : Dev nD) (s j : Fin 2) : sProp 𝕄 := iprop(∃ X, owns (c : Thread nD τ) (piece s j) fullShare X)

/-! ## The schedule -/

/-- The duties of the cells' one round. The barrier has two: `false` from the device before, `true` from the device after. -/
def dut : Kd → Finset Bool
  | .bar => Finset.univ
  | _ => {false}

def amt : Kd → ℕ
  | .bar => 1
  | .cred => 1
  | _ => N

theorem amt_pos (k : Kd) : 0 < amt k := by
  cases k with
  | bar => exact Nat.one_pos
  | cred => exact Nat.one_pos
  | send h j => exact N_pos
  | recv h j => exact N_pos

/-- What they hand to device `c`: the barrier's `true` the next device's ring buffer, the credit that device's slot 0 again,
    a send the half of its source it read, a receive the piece with the block of weights of `h + 1` devices before. -/
def pay (c : Dev nD) : Kd → Bool → sProp 𝕄
  | .bar, false => iprop(emp)
  | .bar, true => iprop((pieceAny (nxt c) 0 0 ∗ pieceAny (nxt c) 0 1) ∗ pieceAny (nxt c) 1 0 ∗ pieceAny (nxt c) 1 1)
  | .cred, _ => iprop(pieceAny (nxt c) 0 0 ∗ pieceAny (nxt c) 0 1)
  | .send h j, _ => owns (c : Thread nD τ) (wts j h.castSucc) fullShare.left (wC m ρ j (back h.val c))
  | .recv h j, _ => owns (c : Thread nD τ) (piece (slot h) j) fullShare (wC m ρ j (back (h.val + 1) c))

instance pieceAny_storable (c : Dev nD) (s j : Fin 2) : BI.Storable (upEmb : UEmb _ 𝕄) (pieceAny (F := F) c s j) := by
  unfold pieceAny owns; infer_instance
instance pay_storable (c : Dev nD) (k : Kd) (d : Bool) : BI.Storable (upEmb : UEmb _ 𝕄) (pay m ρ c k d) := by
  cases k <;> cases d <;> unfold pay <;> (try unfold owns) <;> infer_instance

def ringRd : Rounds.Schedule (GSem nD τ sig) Bool 𝕄 where
  duties g r := if r = 0 ∧ g.1.2 = .tc then (match kindOf g.2 with | some k => dut k | none => ∅) else ∅
  unitless _ := False
  amount g _ _ := match kindOf g.2 with | some k => amt k | none => 1
  payload g _ d := match kindOf g.2 with | some k => pay m ρ g.1.1 k d | none => iprop(emp)
  amount_pos g _ _ _ := by
    cases kindOf g.2 with
    | none => exact Nat.one_pos
    | some k => exact amt_pos k

instance ringRd_payload_storable (g : GSem nD τ sig) (r : ℕ) (d : Bool) : BI.Storable (upEmb : UEmb _ 𝕄) ((ringRd (F := F) m ρ).payload g r d) := by
  show BI.Storable upEmb (match kindOf g.2 with | some k => pay m ρ g.1.1 k d | none => iprop(emp))
  cases kindOf g.2 <;> infer_instance

theorem duties_cell (c : Dev nD) (k : Kd) : (ringRd (F := F) m ρ).duties (kcell c k) 0 = dut k := by
  dsimp only [ringRd]; rw [if_pos ⟨rfl, rfl⟩, kindOf_csem]
theorem duties_later (g : GSem nD τ sig) : ∀ r, 1 ≤ r → (ringRd (F := F) m ρ).duties g r = ∅ :=
  fun r hr => by dsimp only [ringRd]; exact if_neg fun h => by omega
theorem amount_cell (c : Dev nD) (k : Kd) (d : Bool) : (ringRd (F := F) m ρ).amount (kcell c k) 0 d = amt k := by
  dsimp only [ringRd]; rw [kindOf_csem]
theorem payload_cell (c : Dev nD) (k : Kd) (d : Bool) : (ringRd (F := F) m ρ).payload (kcell c k) 0 d = pay m ρ c k d := by
  dsimp only [ringRd]; rw [kindOf_csem]

/-- What a round's wait takes. -/
def total : Kd → ℕ
  | .bar => 2
  | .cred => 1
  | _ => N

theorem expect_cell (c : Dev nD) (k : Kd) : (ringRd (F := F) m ρ).expect (kcell c k) 0 = total k := by
  unfold Schedule.expect Schedule.amountOf
  rw [duties_cell, Finset.sum_congr rfl fun d _ => amount_cell m ρ c k d]
  cases k <;> simp [dut, amt, total]

theorem rest_cell (c : Dev nD) (k : Kd) (hk : dut k = {false}) :
    bigSep ((ringRd (F := F) m ρ).duties (kcell c k) 0 \ ∅) (fun d => (ringRd (F := F) m ρ).payload (kcell c k) 0 d) = pay m ρ c k false := by
  rw [Finset.sdiff_empty, duties_cell, hk, bigSep_singleton, payload_cell]

theorem rest_bar (c : Dev nD) :
    bigSep ((ringRd (F := F) m ρ).duties (kcell c .bar) 0 \ ∅) (fun d => (ringRd (F := F) m ρ).payload (kcell c .bar) 0 d) = iprop(pay m ρ c .bar false ∗ pay m ρ c .bar true) := by
  rw [Finset.sdiff_empty, duties_cell]
  show bigSep Finset.univ _ = _
  rw [bigSep_univ_eq_bigSepL [false, true] (by decide) (by decide), bigSepL_cons_cons, bigSepL_singleton, payload_cell, payload_cell]
  rfl

/-! ## What each device owes, and the levels -/

/-- The payments of device `c`, the last one first. -/
def payKd : ℕ → Kd
  | 0 => .recv 2 1 | 1 => .recv 2 0 | 2 => .cred | 3 => .recv 1 1 | 4 => .recv 1 0 | 5 => .recv 0 1 | 6 => .recv 0 0 | _ => .bar
def payDev (c : Dev nD) : ℕ → Dev nD
  | 2 => prv c | 8 => prv c | _ => nxt c

/-- What is owed with `n` payments left. -/
def owe (c : Dev nD) : ℕ → CellTallies nD τ sig Unit
  | 0 => 0
  | n + 1 => owe c n + tallyAt (kcell (payDev c n) (payKd n)) () (amt (payKd n))

def L (g : GSem nD τ sig) : Finset Unit := if g.1.2 = .tc then {()} else ∅
def lvK : Kd → ℕ
  | .bar => 1 | .cred => 4 | .send _ _ => 0
  | .recv 0 _ => 2 | .recv 1 _ => 3 | .recv 2 _ => 5
def lvS (sm : SemLoc sig) : ℕ := match kindOf sm with | some k => lvK k | none => 0
def lv (g : GSem nD τ sig) (_ : Unit) : ℕ := lvS g.2

theorem lvS_csem (k : Kd) : lvS (csem k) = lvK k := by unfold lvS; rw [kindOf_csem]
theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {g : GSem nD τ sig} {u : Unit} : ∀ {n : ℕ}, 0 < owe c n g u → ∃ i, i < n ∧ g = kcell (payDev c i) (payKd i)
  | 0, h => absurd h (Nat.lt_irrefl 0)
  | n + 1, h => by
    unfold owe at h
    rw [Pi.add_apply, Finsupp.add_apply, tallyAt_apply] at h
    by_cases hg : g = kcell (payDev c n) (payKd n) ∧ u = ()
    · exact ⟨n, Nat.lt_succ_self n, hg.1⟩
    · rw [if_neg hg, Nat.add_zero] at h
      obtain ⟨i, hi, e⟩ := owe_pos h
      exact ⟨i, Nat.lt_succ_of_lt hi, e⟩

/-- A cell below everything owed may be waited on. -/
theorem mayWait (c : Dev nD) (sm : SemLoc sig) (n : ℕ) (h : ∀ i, i < n → lvS sm < lvK (payKd i)) :
    (levAts L lv : sProp 𝕄) ⊢ MayWait (c : Thread nD τ) sm () (owe c n) :=
  MayOwe.of_cut (L := L) (lev := lv) (lvS sm) (fun p hp => by rw [Finset.mem_singleton.mp hp, L_tc]; exact Finset.mem_singleton_self _)
    (fun g u hg => by obtain ⟨i, -, rfl⟩ := owe_pos hg; exact Finset.mem_singleton_self _)
    (fun p hp => by rw [Finset.mem_singleton.mp hp]; exact le_refl _)
    (fun g u hg => by
      obtain ⟨i, hi, rfl⟩ := owe_pos hg
      show lvS sm < lvS (csem (payKd i))
      rw [lvS_csem]; exact h i hi)

theorem lvK_pos : ∀ i, i < 9 → 0 < lvK (payKd i) := by decide

theorem mayWait_low (c : Dev nD) (sm : SemLoc sig) (n : ℕ) (hn : n ≤ 9) (h : lvS sm = 0) :
    (levAts L lv : sProp 𝕄) ⊢ MayWait (c : Thread nD τ) sm () (owe c n) :=
  mayWait c sm n fun i hi => by
    rw [h]
    exact lvK_pos i (by omega)

end Cert.KernelIdeal.Ring
end
-- ==== Proof.Cells.lean ====
/-
# The shared cells' rules at the ring

What a device starts from, and the rules of its remote copies and waits, each once for all hops.
-/
module

public import proofs.«01_k».proof.Proof.Sched

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## What everyone knows -/

/-- Every cell's invariant, at the names `K`, and that every cell has reached its round. -/
def records (K : Dev nD × Kd → ℕ) : sProp 𝕄 :=
  iprop((bigSep Finset.univ fun ck : Dev nD × Kd => cellInv ER (ringRd m ρ) (K ck) (kcell ck.1 ck.2))
    ∗ bigSep Finset.univ fun ck : Dev nD × Kd => reached ER (kcell ck.1 ck.2) 0)

instance records_persistent (K : Dev nD × Kd → ℕ) : BI.Persistent (records m ρ K) := by unfold records; infer_instance

theorem inv_at (K : Dev nD × Kd → ℕ) (c : Dev nD) (k : Kd) : records m ρ K ⊢ cellInv ER (ringRd m ρ) (K (c, k)) (kcell c k) := by
  have h : (bigSep Finset.univ fun ck : Dev nD × Kd => cellInv ER (ringRd m ρ) (K ck) (kcell ck.1 ck.2)) ⊢ cellInv ER (ringRd m ρ) (K (c, k)) (kcell c k) :=
    bigSep_elim (Finset.mem_univ (c, k))
  unfold records
  iintro ⟨H, -⟩
  iapply h
  iexact H

theorem reached_at (K : Dev nD × Kd → ℕ) (c : Dev nD) (k : Kd) : records m ρ K ⊢ reached ER (kcell c k) 0 := by
  have h : (bigSep Finset.univ fun ck : Dev nD × Kd => (reached ER (kcell ck.1 ck.2) 0 : sProp 𝕄)) ⊢ reached ER (kcell c k) 0 :=
    bigSep_elim (Finset.mem_univ (c, k))
  unfold records
  iintro ⟨-, H⟩
  iapply h
  iexact H

/-! ## A remote copy -/

theorem credit_piece (s j : Fin 2) : (piece s j).view.dmaCredit = N := by unfold N; rfl
theorem credit_wq : wqM.view.dmaCredit = N := by unfold N; rfl
theorem credit_wo : woM.view.dmaCredit = N := by unfold N; rfl

/-- Hop `h` of piece `j`: half of the source goes to the send cell, the next device's piece, rewritten, to its receive cell. -/
theorem send_spec (K : Dev nD × Kd → ℕ) (c n : Dev nD) (hn : n = nxt c) (h : Fin 3) (j : Fin 2) (O : CellTallies nD τ sig Unit) (W : Waits sig Unit)
    {hsc : (piece (slot h) j : Memref sig (Dev.tc n : Thread nD τ).2.kind .vmem S1024x1024 .f32).view.ref.isScScratch = false}
    {hsrc : (wts j h.castSucc).view.WordExact} {hdst : (piece (slot h) j).view.WordExact}
    {hsem : DmaTarget.Typed .vmem (.dma (recvS h j)) (.remote (Dev.tc n : Thread nD τ) (piece (slot h) j) (.dma (sendS h j)) hsc)}
    {α : Type} {Q : α → sProp 𝕄} {k : PUnit → Prog (TpuEff nD τ sig (Elt F) Λ₀ .tc) α} :
    iprop(records m ρ K ∗ owns (c : Thread nD τ) (wts j h.castSucc) fullShare.left (wC m ρ j (back h.val c)) ∗ pieceAny (nxt c) (slot h) j
        ∗ owes (c : Thread nD τ) (O + tallyAt (kcell (nxt c) (.recv h j)) () N) W
        ∗ dutyTok ER (kcell c (.send h j)) 0 false ∗ dutyTok ER (kcell (nxt c) (.recv h j)) 0 false)
      ⊢ iprop(((cred (tallyAt (kcell c (.send h j)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wts j h.castSucc) (.remote (Dev.tc n : Thread nD τ) (piece (slot h) j) (.dma (sendS h j)) hsc) (.dma (recvS h j)) hsrc hdst hsem) k) Q) := by
  subst hn
  unfold pieceAny
  iintro ⟨#HR, Hs, ⟨%X, Hd⟩, HO, Ht1, Ht2⟩ Hk
  ihave Hs2 := (Entails.of_eq (owns_iff c (wts j h.castSucc) fullShare.left _)) $$ Hs
  ihave Hd2 := (Entails.of_eq (owns_iff (nxt c) (piece (slot h) j) fullShare X)) $$ Hd
  icases Hs2 with ⟨%fs, %hfs, Hs⟩
  icases Hd2 with ⟨%fd, -, Hd⟩
  iapply (Rounds.wp_send_pointsTo 𝒱₀ ER (ringRd m ρ) (c : Thread nD τ) none (κ₁ := K (c, .send h j)) (κ₂ := K (nxt c, .recv h j))
    (r₁ := 0) (r₂ := 0) (d₁ := false) (d₂ := false) (fs := fs) (fd := fd)
    (by rw [duties_cell m ρ c (.send h j)]; exact Finset.mem_singleton_self _) (by rw [duties_cell m ρ (nxt c) (.recv h j)]; exact Finset.mem_singleton_self _)
    () () N ((View.amount_dma _ _).trans (credit_piece _ _)) (amount_cell m ρ c (.send h j) false) (amount_cell m ρ (nxt c) (.recv h j) false) O rfl (W := W)
    (by
      rw [payload_cell m ρ c (.send h j)]; show _ ⊢ (owns (Val := Elt F) (c : Thread nD τ) (wts j h.castSucc) fullShare.left (wC m ρ j (back h.val c)) : sProp 𝕄); rw [owns_iff]
      iintro H; iexists fs; isplitr; · ipureintro; exact hfs
      iexact H)
    (by
      rw [payload_cell m ρ (nxt c) (.recv h j)]; show _ ⊢ (owns (Val := Elt F) (nxt c : Thread nD τ) (piece (slot h) j) fullShare (wC m ρ j (back (h.val + 1) (nxt c))) : sProp 𝕄); rw [owns_iff, back_succ_nxt]
      iintro H; iexists _
      isplitr [H]
      rotate_left
      · iexact H
      ipureintro; rw [View.read_write_univ]; exact hfs)) $$ [Hs Hd HO Ht1 Ht2]
  · isplitr; · iapply (inv_at m ρ K c (.send h j)); iexact HR
    isplitr; · iapply (inv_at m ρ K (nxt c) (.recv h j)); iexact HR
    isplitl [Hs]; · iexact Hs
    isplitl [Hd]; · iexact Hd
    isplitl [HO]; · iexact HO
    isplitl [Ht1]; · iexact Ht1
    isplitr; · iapply (reached_at m ρ K c (.send h j)); iexact HR
    isplitl [Ht2]; · iexact Ht2
    iapply (reached_at m ρ K (nxt c) (.recv h j)); iexact HR
  iexact Hk

/-! ## A wait for a copy -/

/-- The wait on one of the copies' cells takes what it hands over, and the cell closes. -/
theorem wait_spec (K : Dev nD × Kd → ℕ) (c : Dev nD) (kd : Kd) (S : DmaSem sig) (hS : csem kd = .dma S) (hk : dut kd = {false}) (ht : total kd = N)
    {srcw dstw : Memref sig .tc .vmem S1024x1024 .f32} {hsrc : srcw.view.WordExact} {hdst : dstw.view.WordExact} (hN : dstw.view.dmaCredit = N)
    (O : CellTallies nD τ sig Unit)
    {α : Type} {Q : α → sProp 𝕄} {k : PUnit → Prog (TpuEff nD τ sig (Elt F) Λ₀ .tc) α} :
    iprop(records m ρ K ∗ cred (tallyAt (kcell c kd) () N) ∗ (∃ W, owes (c : Thread nD τ) O W) ∗ MayWait (c : Thread nD τ) (csem kd) () O
        ∗ atPos ER (kcell c kd) 0 ∅ 0)
      ⊢ iprop(((∃ W, owes (c : Thread nD τ) O W) ∗ semVal (kcell c kd) 0 ∗ pay m ρ c kd false
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S srcw dstw hsrc hdst) k) Q) := by
  have hI := inv_at m ρ K c kd
  have hE := expect_cell m ρ c kd
  have hP := rest_cell m ρ c kd hk
  rw [ht] at hE
  unfold kcell at hI hE hP ⊢
  rw [hS] at hI hE hP ⊢
  iintro ⟨#HR, Hc, ⟨%W, HO⟩, HM, Hat⟩ Hk
  iapply (Rounds.wp_wait_rest_token 𝒱₀ ER (ringRd m ρ) (c : Thread nD τ) none (κ := K (c, kd))
      (wpE_waitDma2_eq 𝒱₀ (c : Thread nD τ) none Set.univ) (Set.mem_univ _) () (O := O) (W := W) (R := 0) (m := 0) (T := ∅)
      (by rw [Nat.zero_add, hE, hN])) $$ [Hc HO HM Hat]
  · isplitr; · iapply hI; iexact HR
    isplitl [Hc]; · rw [hN]; iexact Hc
    isplitl [HO]; · iexact HO
    isplitl [HM]; · iexact HM
    iexact Hat
  iintro ⟨HO, Hat, -, Hpay⟩
  ihave Hp := (Entails.of_eq hP) $$ Hpay
  imod (Rounds.cell_close ER (ringRd m ρ) (Set.mem_univ (K (c, kd))) (fun h => h) (R := 0 + 1) (duties_later m ρ _)) $$ [Hat] with Hz
  · isplitr; · iapply hI; iexact HR
    iexact Hat
  iapply Hk
  isplitl [HO]; · iexists _; iexact HO
  isplitl [Hz]; · iexact Hz
  iexact Hp

end Cert.KernelIdeal.Ring
end
-- ==== Proof.Phase.lean ====
/-
# The phases of the ring: the meeting, a hop's copies, a hop's arrivals, the renewal of slot 0
-/
module

public import proofs.«01_k».proof.Proof.Cells

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- The debts `n` payments before the end. -/
def debts (c : Dev nD) (n : ℕ) : sProp 𝕄 := iprop(∃ W, owes (c : Thread nD τ) (owe c n) W)

/-- What hop `h` of piece `j` uses up: the two tokens, the two positions, the credit of the receive cell. -/
def fare (c : Dev nD) (h : Fin 3) (j : Fin 2) : sProp 𝕄 :=
  iprop(dutyTok ER (kcell c (.send h j)) 0 false ∗ dutyTok ER (kcell (nxt c) (.recv h j)) 0 false
    ∗ atPos ER (kcell c (.send h j)) 0 ∅ 0 ∗ atPos ER (kcell c (.recv h j)) 0 ∅ 0 ∗ cred (tallyAt (kcell c (.recv h j)) () N))
/-- The same while its copies are under way. -/
def flight (c : Dev nD) (h : Fin 3) (j : Fin 2) : sProp 𝕄 :=
  iprop(cred (tallyAt (kcell c (.send h j)) () N)
    ∗ atPos ER (kcell c (.send h j)) 0 ∅ 0 ∗ atPos ER (kcell c (.recv h j)) 0 ∅ 0 ∗ cred (tallyAt (kcell c (.recv h j)) () N))
/-- And once both have been waited for. -/
def landed (c : Dev nD) (h : Fin 3) (j : Fin 2) : sProp 𝕄 := iprop(semVal (kcell c (.send h j)) 0 ∗ semVal (kcell c (.recv h j)) 0)

/-- A slot's two pieces at any contents. -/
def slotAny (c : Dev nD) (s : Fin 2) : sProp 𝕄 := iprop(pieceAny c s 0 ∗ pieceAny c s 1)

/-- The two weights a step reads, at share `q`. -/
def duo (c : Dev nD) (q : PosShare TreeShare) (g : Fin 4) : sProp 𝕄 :=
  iprop(owns (c : Thread nD τ) (wts 0 g) q (wC m ρ 0 (back g.val c)) ∗ owns (c : Thread nD τ) (wts 1 g) q (wC m ρ 1 (back g.val c)))

theorem duo_halves (c : Dev nD) (q : PosShare TreeShare) (g : Fin 4) : duo m ρ c q g ⊣⊢ iprop(duo m ρ c q.left g ∗ duo m ρ c q.right g) := by
  unfold duo
  constructor
  · iintro ⟨H0, H1⟩
    ihave H0 := (owns_halves (c : Thread nD τ) _ q _).1 $$ H0
    ihave H1 := (owns_halves (c : Thread nD τ) _ q _).1 $$ H1
    icases H0 with ⟨H0, H0'⟩
    icases H1 with ⟨H1, H1'⟩
    isplitl [H0 H1]
    · isplitl [H0] <;> iassumption
    isplitl [H0'] <;> iassumption
  · iintro ⟨⟨H0, H1⟩, H0', H1'⟩
    isplitl [H0 H0']
    · iapply (owns_halves (c : Thread nD τ) _ q _).2
      isplitl [H0] <;> iassumption
    iapply (owns_halves (c : Thread nD τ) _ q _).2
    isplitl [H1] <;> iassumption

theorem slot_of_duo (c : Dev nD) (g : Fin 4) (s : Fin 2) (h : wts 0 g = piece s 0 ∧ wts 1 g = piece s 1) : duo m ρ c fullShare g ⊢ slotAny c s := by
  unfold duo slotAny pieceAny
  rw [h.1, h.2]
  iintro ⟨H0, H1⟩
  isplitl [H0] <;> (iexists _; iassumption)

/-! ## The meeting -/

theorem meet_spec (K : Dev nD × Kd → ℕ) (c : Dev nD) {α : Type} {Q : α → sProp 𝕄} {k : PUnit → Prog (TpuEff nD τ sig (Elt F) Λ₀ .tc) α} :
    iprop(records m ρ K ∗ levAts L lv ∗ debts c 9 ∗ dutyTok ER (kcell (prv c) .bar) 0 true ∗ dutyTok ER (kcell (nxt c) .bar) 0 false
        ∗ atPos ER (kcell c .bar) 0 ∅ 0 ∗ cred (tallyAt (kcell c .bar) () 2) ∗ slotAny c 0 ∗ slotAny c 1)
      ⊢ iprop((debts c 7 ∗ semVal (kcell c .bar) 0 ∗ slotAny (nxt c) 0 ∗ slotAny (nxt c) 1
            -∗ wp frame (wpE (defs₀ (F := F)) 𝒱₀ (c : Thread nD τ) none) Set.univ (k ⟨⟩) Q)
          -∗ wp frame (wpE (defs₀ (F := F)) 𝒱₀ (c : Thread nD τ) none) Set.univ (meet c >>= k) Q) := by
  unfold meet debts
  simp only [semSignalWord, semWaitWord, Prog.bind_op, Prog.bind_ret]
  iintro ⟨#HR, #Hlev, ⟨%W, HO⟩, Ht1, Ht2, Hat, Hc, Hs0, Hs1⟩ Hk
  iapply (Rounds.wp_signal 𝒱₀ ER (ringRd m ρ) (c : Thread nD τ) none (dst := (prv c : Thread nD τ)) (κ := K (prv c, .bar)) (d := true)
      (by rw [duties_cell m ρ (prv c) .bar]; exact Finset.mem_univ _) ((amount_cell m ρ (prv c) .bar true).trans (by decide)) () (owe c 8) rfl) $$ [HO Ht1 Hs0 Hs1]
  · isplitr; · iapply (inv_at m ρ K (prv c) .bar); iexact HR
    isplitl [HO]; · iexact HO
    isplitl [Ht1]; · iexact Ht1
    isplitl [Hs0 Hs1]
    · rw [payload_cell m ρ (prv c) .bar]
      unfold pay
      dsimp only
      rw [nxt_prv]
      unfold slotAny
      isplitl [Hs0]; · iexact Hs0
      iexact Hs1
    iapply (reached_at m ρ K (prv c) .bar); iexact HR
  iintro HO
  iapply (Rounds.wp_signal 𝒱₀ ER (ringRd m ρ) (c : Thread nD τ) none (dst := (nxt c : Thread nD τ)) (κ := K (nxt c, .bar)) (d := false)
      (by rw [duties_cell m ρ (nxt c) .bar]; exact Finset.mem_univ _) ((amount_cell m ρ (nxt c) .bar false).trans (by decide)) () (owe c 7) rfl) $$ [HO Ht2]
  · isplitr; · iapply (inv_at m ρ K (nxt c) .bar); iexact HR
    isplitl [HO]; · iexact HO
    isplitl [Ht2]; · iexact Ht2
    isplitr
    · rw [payload_cell m ρ (nxt c) .bar]; unfold pay; iempintro
    iapply (reached_at m ρ K (nxt c) .bar); iexact HR
  iintro HO
  iapply (Rounds.wp_wait_rest_token 𝒱₀ ER (ringRd m ρ) (c : Thread nD τ) none (κ := K (c, .bar))
      (wpE_semWait_eq 𝒱₀ (c : Thread nD τ) none Set.univ) (Set.mem_univ _) () (O := owe c 7) (W := W) (R := 0) (m := 0) (T := ∅)
      (by rw [expect_cell m ρ c .bar]; decide)) $$ [Hc HO Hat]
  · isplitr; · iapply (inv_at m ρ K c .bar); iexact HR
    isplitl [Hc]; · iexact Hc
    isplitl [HO]; · iexact HO
    isplitr; · iapply (mayWait c (csem .bar) 7 (by rw [lvS_csem]; decide)); iexact Hlev
    iexact Hat
  iintro ⟨HO, Hat, -, Hpay⟩
  ihave Hp := (Entails.of_eq (rest_bar m ρ c)) $$ Hpay
  imod (Rounds.cell_close ER (ringRd m ρ) (Set.mem_univ (K (c, .bar))) (fun h => h) (R := 0 + 1) (duties_later m ρ _)) $$ [Hat] with Hz
  · isplitr; · iapply (inv_at m ρ K c .bar); iexact HR
    iexact Hat
  unfold pay slotAny
  icases Hp with ⟨-, Hs0, Hs1⟩
  iapply Hk
  isplitl [HO]; · iexists _; iexact HO
  isplitl [Hz]; · iexact Hz
  isplitl [Hs0]; · iexact Hs0
  iexact Hs1

/-! ## The renewal -/

theorem renew_spec (K : Dev nD × Kd → ℕ) (c : Dev nD) {α : Type} {Q : α → sProp 𝕄} {k : PUnit → Prog (TpuEff nD τ sig (Elt F) Λ₀ .tc) α} :
    iprop(records m ρ K ∗ levAts L lv ∗ debts c 3 ∗ dutyTok ER (kcell (prv c) .cred) 0 false
        ∗ atPos ER (kcell c .cred) 0 ∅ 0 ∗ cred (tallyAt (kcell c .cred) () 1) ∗ slotAny c 0)
      ⊢ iprop((debts c 2 ∗ semVal (kcell c .cred) 0 ∗ slotAny (nxt c) 0
            -∗ wp frame (wpE (defs₀ (F := F)) 𝒱₀ (c : Thread nD τ) none) Set.univ (k ⟨⟩) Q)
          -∗ wp frame (wpE (defs₀ (F := F)) 𝒱₀ (c : Thread nD τ) none) Set.univ (renew c >>= k) Q) := by
  unfold renew debts
  simp only [semSignalWord, semWaitWord, Prog.bind_op, Prog.bind_ret]
  iintro ⟨#HR, #Hlev, ⟨%W, HO⟩, Ht1, Hat, Hc, Hs0⟩ Hk
  iapply (Rounds.wp_signal 𝒱₀ ER (ringRd m ρ) (c : Thread nD τ) none (dst := (prv c : Thread nD τ)) (κ := K (prv c, .cred)) (d := false)
      (by rw [duties_cell m ρ (prv c) .cred]; exact Finset.mem_singleton_self _) ((amount_cell m ρ (prv c) .cred false).trans (by decide)) () (owe c 2) rfl) $$ [HO Ht1 Hs0]
  · isplitr; · iapply (inv_at m ρ K (prv c) .cred); iexact HR
    isplitl [HO]; · iexact HO
    isplitl [Ht1]; · iexact Ht1
    isplitl [Hs0]
    · rw [payload_cell m ρ (prv c) .cred]
      unfold pay
      dsimp only
      rw [nxt_prv]
      unfold slotAny
      iexact Hs0
    iapply (reached_at m ρ K (prv c) .cred); iexact HR
  iintro HO
  iapply (Rounds.wp_wait_rest_token 𝒱₀ ER (ringRd m ρ) (c : Thread nD τ) none (κ := K (c, .cred))
      (wpE_semWait_eq 𝒱₀ (c : Thread nD τ) none Set.univ) (Set.mem_univ _) () (O := owe c 2) (W := W) (R := 0) (m := 0) (T := ∅)
      (by rw [expect_cell m ρ c .cred]; decide)) $$ [Hc HO Hat]
  · isplitr; · iapply (inv_at m ρ K c .cred); iexact HR
    isplitl [Hc]; · iexact Hc
    isplitl [HO]; · iexact HO
    isplitr; · iapply (mayWait c (csem .cred) 2 (by rw [lvS_csem]; decide)); iexact Hlev
    iexact Hat
  iintro ⟨HO, Hat, -, Hpay⟩
  ihave Hp := (Entails.of_eq (rest_cell m ρ c .cred rfl)) $$ Hpay
  imod (Rounds.cell_close ER (ringRd m ρ) (Set.mem_univ (K (c, .cred))) (fun h => h) (R := 0 + 1) (duties_later m ρ _)) $$ [Hat] with Hz
  · isplitr; · iapply (inv_at m ρ K c .cred); iexact HR
    iexact Hat
  unfold pay slotAny
  iapply Hk
  isplitl [HO]; · iexists _; iexact HO
  isplitl [Hz]; · iexact Hz
  iexact Hp

/-! ## A hop -/

theorem pass_spec (K : Dev nD × Kd → ℕ) (c n₀ n₁ : Dev nD) (e₀ : n₀ = nxt c) (e₁ : n₁ = nxt c) (h : Fin 3) (n : ℕ)
    (hn : owe c (n + 2) = owe c n + tallyAt (kcell (nxt c) (.recv h 1)) () N + tallyAt (kcell (nxt c) (.recv h 0)) () N)
    (w₀ : (wts 0 h.castSucc).view.WordExact) (w₁ : (wts 1 h.castSucc).view.WordExact)
    {α : Type} {Q : α → sProp 𝕄} {k : PUnit → Prog (TpuEff nD τ sig (Elt F) Λ₀ .tc) α} :
    iprop(records m ρ K ∗ debts c (n + 2) ∗ fare c h 0 ∗ fare c h 1 ∗ duo m ρ c fullShare.left h.castSucc ∗ slotAny (nxt c) (slot h))
      ⊢ iprop((debts c n ∗ flight c h 0 ∗ flight c h 1 -∗ wp frame (wpE (defs₀ (F := F)) 𝒱₀ (c : Thread nD τ) none) Set.univ (k ⟨⟩) Q)
          -∗ wp frame (wpE (defs₀ (F := F)) 𝒱₀ (c : Thread nD τ) none) Set.univ
              (pass n₀ n₁ h (slot h) (wts 0 h.castSucc) (wts 1 h.castSucc) w₀ w₁ >>= k) Q) := by
  unfold pass debts fare flight duo slotAny
  simp only [hop, Prog.lift, Prog.bind_op, Prog.bind_ret]
  rw [hn]
  iintro ⟨#HR, ⟨%W, HO⟩, ⟨Hs0, Hr0, Has0, Har0, Hc0⟩, ⟨Hs1, Hr1, Has1, Har1, Hc1⟩, ⟨Hw0, Hw1⟩, Hp0, Hp1⟩ Hk
  iapply (send_spec m ρ K c n₀ e₀ h 0 _ W) $$ [Hw0 Hp0 HO Hs0 Hr0]
  · isplitr; · iexact HR
    isplitl [Hw0]; · iexact Hw0
    isplitl [Hp0]; · iexact Hp0
    isplitl [HO]; · iexact HO
    isplitl [Hs0] <;> iassumption
  iintro ⟨Hcs0, HO⟩
  iapply (send_spec m ρ K c n₁ e₁ h 1 _ W) $$ [Hw1 Hp1 HO Hs1 Hr1]
  · isplitr; · iexact HR
    isplitl [Hw1]; · iexact Hw1
    isplitl [Hp1]; · iexact Hp1
    isplitl [HO]; · iexact HO
    isplitl [Hs1] <;> iassumption
  iintro ⟨Hcs1, HO⟩
  iapply Hk
  isplitl [HO]; · iexists _; iexact HO
  isplitl [Hcs0 Has0 Har0 Hc0]
  · isplitl [Hcs0]; · iexact Hcs0
    isplitl [Has0]; · iexact Has0
    isplitl [Har0] <;> iassumption
  isplitl [Hcs1]; · iexact Hcs1
  isplitl [Has1]; · iexact Has1
  isplitl [Har1] <;> iassumption

theorem credit_wts : ∀ (j : Fin 2) (g : Fin 4), (wts j g).view.dmaCredit = N := by
  intro j g
  fin_cases j <;> fin_cases g <;> first | exact credit_wq | exact credit_wo | exact credit_piece _ _

theorem arrive_spec (K : Dev nD × Kd → ℕ) (c : Dev nD) (h : Fin 3) (n : ℕ) (hn : ∀ j i, i < n → lvK (.recv h j) < lvK (payKd i)) (hn9 : n ≤ 9)
    (g : Fin 4) (hg : g = h.succ) (hw : wts 0 g = piece (slot h) 0 ∧ wts 1 g = piece (slot h) 1)
    (w₀ : (wts 0 h.castSucc).view.WordExact) (w₁ : (wts 1 h.castSucc).view.WordExact)
    {α : Type} {Q : α → sProp 𝕄} {k : PUnit → Prog (TpuEff nD τ sig (Elt F) Λ₀ .tc) α} :
    iprop(records m ρ K ∗ levAts L lv ∗ debts c n ∗ flight c h 0 ∗ flight c h 1)
      ⊢ iprop((debts c n ∗ landed c h 0 ∗ landed c h 1 ∗ duo m ρ c fullShare.left h.castSucc ∗ duo m ρ c fullShare g
            -∗ wp frame (wpE (defs₀ (F := F)) 𝒱₀ (c : Thread nD τ) none) Set.univ (k ⟨⟩) Q)
          -∗ wp frame (wpE (defs₀ (F := F)) 𝒱₀ (c : Thread nD τ) none) Set.univ
              (arrive h (slot h) (wts 0 h.castSucc) (wts 1 h.castSucc) w₀ w₁ >>= k) Q) := by
  have hlow : ∀ j, lvS (csem (.send h j)) = 0 := fun j => lvS_csem _
  have hlev : ∀ j, ∀ i, i < n → lvS (csem (.recv h j)) < lvK (payKd i) := fun j i hi => by
    rw [lvS_csem]; exact hn j i hi
  have hg' : g.val = h.val + 1 := by rw [hg]; rfl
  unfold arrive debts flight landed duo
  rw [hw.1, hw.2, hg']
  simp only [sent, got, Prog.lift, Prog.bind_op, Prog.bind_ret]
  iintro ⟨#HR, #Hlev, HO, ⟨Hcs0, Has0, Har0, Hc0⟩, ⟨Hcs1, Has1, Har1, Hc1⟩⟩ Hk
  iapply (wait_spec m ρ K c (.send h 0) (sendS h 0) rfl rfl rfl (credit_wts _ _) (owe c n)) $$ [Hcs0 HO Has0]
  · isplitr; · iexact HR
    isplitl [Hcs0]; · iexact Hcs0
    isplitl [HO]; · iexact HO
    isplitr; · iapply (mayWait_low c _ n hn9 (hlow 0)); iexact Hlev
    iexact Has0
  iintro ⟨HO, Hz0, Hb0⟩
  iapply (wait_spec m ρ K c (.recv h 0) (recvS h 0) rfl rfl rfl (credit_piece _ _) (owe c n)) $$ [Hc0 HO Har0]
  · isplitr; · iexact HR
    isplitl [Hc0]; · iexact Hc0
    isplitl [HO]; · iexact HO
    isplitr; · iapply (mayWait c _ n (hlev 0)); iexact Hlev
    iexact Har0
  iintro ⟨HO, Hy0, Ha0⟩
  iapply (wait_spec m ρ K c (.send h 1) (sendS h 1) rfl rfl rfl (credit_wts _ _) (owe c n)) $$ [Hcs1 HO Has1]
  · isplitr; · iexact HR
    isplitl [Hcs1]; · iexact Hcs1
    isplitl [HO]; · iexact HO
    isplitr; · iapply (mayWait_low c _ n hn9 (hlow 1)); iexact Hlev
    iexact Has1
  iintro ⟨HO, Hz1, Hb1⟩
  iapply (wait_spec m ρ K c (.recv h 1) (recvS h 1) rfl rfl rfl (credit_piece _ _) (owe c n)) $$ [Hc1 HO Har1]
  · isplitr; · iexact HR
    isplitl [Hc1]; · iexact Hc1
    isplitl [HO]; · iexact HO
    isplitr; · iapply (mayWait c _ n (hlev 1)); iexact Hlev
    iexact Har1
  iintro ⟨HO, Hy1, Ha1⟩
  unfold pay
  iapply Hk
  isplitl [HO]; · iexact HO
  isplitl [Hz0 Hy0]; · isplitl [Hz0] <;> iassumption
  isplitl [Hz1 Hy1]; · isplitl [Hz1] <;> iassumption
  isplitl [Hb0 Hb1]
  · isplitl [Hb0]; · iexact Hb0
    iexact Hb1
  isplitl [Ha0]; · iexact Ha0
  iexact Ha1

end Cert.KernelIdeal.Ring
end
-- ==== Proof.Body.lean ====
/-
# The body on one device
-/
module

public import proofs.«01_k».proof.Proof.Phase

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the output holds -/

/-- The arrays of keys and of values. -/
def fK (c : Dev nD) : Buf (Elt F) (kH.view.loc (c : Thread nD τ)) := (s₀ m ρ).mem ((c : Thread nD τ).loc main_arg2)
def fV (c : Dev nD) : Buf (Elt F) (vH.view.loc (c : Thread nD τ)) := (s₀ m ρ).mem ((c : Thread nD τ).loc main_arg3)

/-- The output after step `g`, from what it held before. -/
def stepOut (c : Dev nD) (own first : Bool) (g : Fin 4) (Y : FVec F S1x2048x1024 .f32) : FVec F S1x2048x1024 .f32 :=
  afterStep c own first g (xC m ρ c) (wC m ρ 0 (back g.val c)) (wC m ρ 1 (back g.val c)) (fK m ρ c) (fV m ρ c) Y

/-- The output at the end, from whatever it held. -/
def outFrom (c : Dev nD) (Y : FVec F S1x2048x1024 .f32) : FVec F S1x2048x1024 .f32 :=
  stepOut m ρ c false false 3 (stepOut m ρ c false false 2 (stepOut m ρ c false false 1 (stepOut m ρ c true true 0 Y)))

/-- The first stretch stores, so what the output held is of no account. -/
def outAt (c : Dev nD) : FVec F S1x2048x1024 .f32 := outFrom m ρ c (xC m ρ c)

theorem outFrom_eq (c : Dev nD) (Y : FVec F S1x2048x1024 .f32) : outFrom m ρ c Y = outAt m ρ c := rfl

/-! ## The body -/

/-- What a device starts from, at the names `K`. -/
def ghost (K : Dev nD × Kd → ℕ) (c : Dev nD) : sProp 𝕄 :=
  iprop(records m ρ K ∗ (dutyTok ER (kcell (prv c) .bar) 0 true ∗ dutyTok ER (kcell (nxt c) .bar) 0 false ∗ atPos ER (kcell c .bar) 0 ∅ 0 ∗ cred (tallyAt (kcell c .bar) () 2))
    ∗ (dutyTok ER (kcell (prv c) .cred) 0 false ∗ atPos ER (kcell c .cred) 0 ∅ 0 ∗ cred (tallyAt (kcell c .cred) () 1))
    ∗ (fare c 0 0 ∗ fare c 0 1) ∗ (fare c 1 0 ∗ fare c 1 1) ∗ (fare c 2 0 ∗ fare c 2 1))

/-- The counters at the end. -/
def zeros (c : Dev nD) : sProp 𝕄 :=
  iprop(semVal (kcell c .bar) 0 ∗ semVal (kcell c .cred) 0 ∗ (landed c 0 0 ∗ landed c 0 1) ∗ (landed c 1 0 ∗ landed c 1 1) ∗ (landed c 2 0 ∗ landed c 2 1))

/-- What a step works with and leaves, but for the weights. -/
def desk (c : Dev nD) (n : ℕ) (Y : FVec F S1x2048x1024 .f32) : sProp 𝕄 :=
  iprop(owns (c : Thread nD τ) xM fullShare (xC m ρ c) ∗ owns (c : Thread nD τ) outM fullShare Y ∗ kit c (fK m ρ c) (fV m ρ c) ∗ debts c n)

theorem step_run (c : Dev nD) (own first : Bool) (q : PosShare TreeShare) (g : Fin 4) (n : ℕ) (hn : n ≤ 9) (Y : FVec F S1x2048x1024 .f32)
    {α : Type} {Q : α → sProp 𝕄} {k : Unit → Prog (TpuEff nD τ sig (Elt F) Λ₀ .tc) α} :
    iprop(levAts L lv ∗ duo m ρ c q g ∗ desk m ρ c n Y)
      ⊢ iprop((duo m ρ c q g ∗ desk m ρ c n (stepOut m ρ c own first g Y) -∗ wp frame (wpE (defs₀ (F := F)) 𝒱₀ (c : Thread nD τ) none) Set.univ (k ⟨⟩) Q)
          -∗ wp frame (wpE (defs₀ (F := F)) 𝒱₀ (c : Thread nD τ) none) Set.univ (step c own first (wts 0 g) (wts 1 g) g >>= k) Q) := by
  have hk : lvS (SemLoc.dma kS : SemLoc sig) = 0 := by unfold lvS; rw [kindOf_none _ (by decide +kernel)]
  have hv : lvS (SemLoc.dma vS : SemLoc sig) = 0 := by unfold lvS; rw [kindOf_none _ (by decide +kernel)]
  unfold duo desk debts
  iintro ⟨#Hlev, ⟨Hq, Ho⟩, Hx, HY, Hkit, HO⟩ Hk
  iapply (step_spec 𝒱₀ none c own first q (wts 0 g) (wts 1 g) g (xC m ρ c) (wC m ρ 0 (back g.val c)) (wC m ρ 1 (back g.val c)) (fK m ρ c) (fV m ρ c) (owe c n) Y) $$ [Hq Ho Hx HY Hkit HO]
  · unfold hold localWaits
    isplitl [Hq Ho Hx HY Hkit HO]
    · isplitl [Hx]; · iexact Hx
      isplitl [Hq]; · iexact Hq
      isplitl [Ho]; · iexact Ho
      isplitl [HY]; · iexact HY
      isplitl [Hkit]; · iexact Hkit
      iexact HO
    isplitr; · iapply (mayWait_low c _ n hn hk); iexact Hlev
    iapply (mayWait_low c _ n hn hv); iexact Hlev
  unfold hold
  iintro ⟨Hx, Hq, Ho, HY, Hkit, HO⟩
  iapply Hk
  isplitl [Hq Ho]; · isplitl [Hq] <;> iassumption
  isplitl [Hx]; · iexact Hx
  isplitl [HY]; · iexact HY
  isplitl [Hkit]; · iexact Hkit
  iexact HO

theorem body_run (K : Dev nD × Kd → ℕ) (c : Dev nD) (Y : FVec F S1x2048x1024 .f32) (Q : PUnit → sProp 𝕄) :
    iprop(ghost m ρ K c ∗ levAts L lv ∗ duo m ρ c fullShare 0 ∗ desk m ρ c 9 Y ∗ slotAny c 0 ∗ slotAny c 1)
      ⊢ iprop((zeros c ∗ duo m ρ c fullShare 0 ∗ desk m ρ c 0 (outAt m ρ c) ∗ slotAny c 0 ∗ slotAny c 1 -∗ Q ⟨⟩)
          -∗ wp frame (wpE (defs₀ (F := F)) 𝒱₀ (c : Thread nD τ) none) Set.univ body Q) := by
  unfold body ghost zeros
  simp only [Prog.lift, Prog.bind_op, Prog.bind_ret, wp_deviceId]
  rw [← outFrom_eq m ρ c Y]
  unfold outFrom
  iintro ⟨⟨#HR, ⟨Ht1, Ht2, Hat, Hcb⟩, ⟨Ht3, Hat3, Hcc⟩, ⟨Hf00, Hf01⟩, ⟨Hf10, Hf11⟩, Hf20, Hf21⟩, #Hlev, Hw, Hd, Hs0, Hs1⟩ HQ
  unfold desk
  icases Hd with ⟨Hx, HY, Hkit, HO⟩
  iapply (meet_spec m ρ K c) $$ [HO Ht1 Ht2 Hat Hcb Hs0 Hs1]
  · isplitr; · iexact HR
    isplitr; · iexact Hlev
    isplitl [HO]; · iexact HO
    isplitl [Ht1]; · iexact Ht1
    isplitl [Ht2]; · iexact Ht2
    isplitl [Hat]; · iexact Hat
    isplitl [Hcb]; · iexact Hcb
    isplitl [Hs0] <;> iassumption
  iintro ⟨HO, Hzb, Hn0, Hn1⟩
  ihave Hw := (duo_halves m ρ c fullShare 0).1 $$ Hw
  icases Hw with ⟨HwL, HwR⟩
  iapply (pass_spec m ρ K c _ _ (dev3_eq c) (dev4_eq c) 0 5 rfl wqW woW) $$ [HO Hf00 Hf01 HwL Hn0]
  · isplitr; · iexact HR
    isplitl [HO]; · iexact HO
    isplitl [Hf00]; · iexact Hf00
    isplitl [Hf01]; · iexact Hf01
    isplitl [HwL]; · iexact HwL
    iexact Hn0
  iintro ⟨HO, Hf00, Hf01⟩
  iapply (step_run m ρ c true true fullShare.right 0 5 (by decide) Y) $$ [HwR Hx HY Hkit HO]
  · isplitr; · iexact Hlev
    isplitl [HwR]; · iexact HwR
    unfold desk
    isplitl [Hx]; · iexact Hx
    isplitl [HY]; · iexact HY
    isplitl [Hkit]; · iexact Hkit
    iexact HO
  unfold desk
  iintro ⟨HwR, Hx, HY, Hkit, HO⟩
  iapply (arrive_spec m ρ K c 0 5 (by decide) (by decide) 1 rfl ⟨rfl, rfl⟩ wqW woW) $$ [HO Hf00 Hf01]
  · isplitr; · iexact HR
    isplitr; · iexact Hlev
    isplitl [HO]; · iexact HO
    isplitl [Hf00]; · iexact Hf00
    iexact Hf01
  iintro ⟨HO, Hz00, Hz01, HwL, Hp⟩
  ihave Hw := (duo_halves m ρ c fullShare 0).2 $$ [HwL HwR]
  · isplitl [HwL]; · iexact HwL
    iexact HwR
  ihave Hp := (duo_halves m ρ c fullShare 1).1 $$ Hp
  icases Hp with ⟨HpL, HpR⟩
  iapply (pass_spec m ρ K c _ _ (dev5_eq c) (dev6_eq c) 1 3 rfl (wordP 0 0) (wordP 0 1)) $$ [HO Hf10 Hf11 HpL Hn1]
  · isplitr; · iexact HR
    isplitl [HO]; · iexact HO
    isplitl [Hf10]; · iexact Hf10
    isplitl [Hf11]; · iexact Hf11
    isplitl [HpL]; · iexact HpL
    iexact Hn1
  iintro ⟨HO, Hf10, Hf11⟩
  iapply (step_run m ρ c false false fullShare.right 1 3 (by decide) _) $$ [HpR Hx HY Hkit HO]
  · isplitr; · iexact Hlev
    isplitl [HpR]; · iexact HpR
    unfold desk
    isplitl [Hx]; · iexact Hx
    isplitl [HY]; · iexact HY
    isplitl [Hkit]; · iexact Hkit
    iexact HO
  unfold desk
  iintro ⟨HpR, Hx, HY, Hkit, HO⟩
  iapply (arrive_spec m ρ K c 1 3 (by decide) (by decide) 2 rfl ⟨rfl, rfl⟩ (wordP 0 0) (wordP 0 1)) $$ [HO Hf10 Hf11]
  · isplitr; · iexact HR
    isplitr; · iexact Hlev
    isplitl [HO]; · iexact HO
    isplitl [Hf10]; · iexact Hf10
    iexact Hf11
  iintro ⟨HO, Hz10, Hz11, HpL, Hr⟩
  ihave Hp := (duo_halves m ρ c fullShare 1).2 $$ [HpL HpR]
  · isplitl [HpL]; · iexact HpL
    iexact HpR
  ihave Hs0 := (slot_of_duo m ρ c 1 0 ⟨rfl, rfl⟩) $$ Hp
  iapply (renew_spec m ρ K c) $$ [HO Ht3 Hat3 Hcc Hs0]
  · isplitr; · iexact HR
    isplitr; · iexact Hlev
    isplitl [HO]; · iexact HO
    isplitl [Ht3]; · iexact Ht3
    isplitl [Hat3]; · iexact Hat3
    isplitl [Hcc]; · iexact Hcc
    iexact Hs0
  iintro ⟨HO, Hzc, Hn0⟩
  ihave Hr := (duo_halves m ρ c fullShare 2).1 $$ Hr
  icases Hr with ⟨HrL, HrR⟩
  iapply (pass_spec m ρ K c _ _ (dev8_eq c) (dev9_eq c) 2 0 rfl (wordP 1 0) (wordP 1 1)) $$ [HO Hf20 Hf21 HrL Hn0]
  · isplitr; · iexact HR
    isplitl [HO]; · iexact HO
    isplitl [Hf20]; · iexact Hf20
    isplitl [Hf21]; · iexact Hf21
    isplitl [HrL]; · iexact HrL
    iexact Hn0
  iintro ⟨HO, Hf20, Hf21⟩
  iapply (step_run m ρ c false false fullShare.right 2 0 (by decide) _) $$ [HrR Hx HY Hkit HO]
  · isplitr; · iexact Hlev
    isplitl [HrR]; · iexact HrR
    unfold desk
    isplitl [Hx]; · iexact Hx
    isplitl [HY]; · iexact HY
    isplitl [Hkit]; · iexact Hkit
    iexact HO
  unfold desk
  iintro ⟨HrR, Hx, HY, Hkit, HO⟩
  iapply (arrive_spec m ρ K c 2 0 (by decide) (by decide) 3 rfl ⟨rfl, rfl⟩ (wordP 1 0) (wordP 1 1)) $$ [HO Hf20 Hf21]
  · isplitr; · iexact HR
    isplitr; · iexact Hlev
    isplitl [HO]; · iexact HO
    isplitl [Hf20]; · iexact Hf20
    iexact Hf21
  iintro ⟨HO, Hz20, Hz21, HrL, Hv⟩
  ihave Hr := (duo_halves m ρ c fullShare 2).2 $$ [HrL HrR]
  · isplitl [HrL]; · iexact HrL
    iexact HrR
  ihave Hs1 := (slot_of_duo m ρ c 2 1 ⟨rfl, rfl⟩) $$ Hr
  iapply (step_run m ρ c false false fullShare 3 0 (by decide) _) $$ [Hv Hx HY Hkit HO]
  · isplitr; · iexact Hlev
    isplitl [Hv]; · iexact Hv
    unfold desk
    isplitl [Hx]; · iexact Hx
    isplitl [HY]; · iexact HY
    isplitl [Hkit]; · iexact Hkit
    iexact HO
  unfold desk
  iintro ⟨Hv, Hx, HY, Hkit, HO⟩
  ihave Hs0 := (slot_of_duo m ρ c 3 0 ⟨rfl, rfl⟩) $$ Hv
  rw [Prog.pure_eq_ret, wp_ret]
  imodintro
  iapply HQ
  isplitl [Hzb Hzc Hz00 Hz01 Hz10 Hz11 Hz20 Hz21]
  · isplitl [Hzb]; · iexact Hzb
    isplitl [Hzc]; · iexact Hzc
    isplitl [Hz00 Hz01]; · isplitl [Hz00] <;> iassumption
    isplitl [Hz10 Hz11]; · isplitl [Hz10] <;> iassumption
    isplitl [Hz20] <;> iassumption
  isplitl [Hw]; · iexact Hw
  isplitl [Hx HY Hkit HO]
  · isplitl [Hx]; · iexact Hx
    isplitl [HY]; · iexact HY
    isplitl [Hkit]; · iexact Hkit
    iexact HO
  isplitl [Hs0] <;> iassumption

end Cert.KernelIdeal.Ring
end
-- ==== Proof.Data.lean ====
/-
# What the region's windows hold, and the body's obligation
-/
module

public import proofs.«01_k».proof.Proof.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The ring's buffer is its four pieces -/

abbrev pieceSet (sj : Fin 2 × Fin 2) : Finset (S2x2x1024x1024.Idx) := (piece sj.1 sj.2).view.set

theorem mem_piece (s j : Fin 2) (i : S2x2x1024x1024.Idx) : i ∈ pieceSet (s, j) ↔ (i 0).val = s.val ∧ (i 1).val = j.val := by
  unfold pieceSet
  rw [show (piece s j).view.set = (Rect.unit (s := S2x2x1024x1024) ![s.val, j.val, 0, 0] S1x1x1024x1024.size (inb_comm s j)).set from
    (View.set_reshape _ _).trans (View.set_slice_whole cc0_scratch0 _), Rect.mem_set_unit]
  constructor
  · intro h
    have h0 := h 0
    have h1 := h 1
    change s.val ≤ (i 0).val ∧ (i 0).val < s.val + 1 at h0
    change j.val ≤ (i 1).val ∧ (i 1).val < j.val + 1 at h1
    omega
  · rintro ⟨h0, h1⟩ a
    have b2 : (i 2).val < 1024 := (i 2).isLt
    have b3 : (i 3).val < 1024 := (i 3).isLt
    fin_cases a
    · show s.val ≤ (i 0).val ∧ (i 0).val < s.val + 1; omega
    · show j.val ≤ (i 1).val ∧ (i 1).val < j.val + 1; omega
    · show 0 ≤ (i 2).val ∧ (i 2).val < 0 + 1024; omega
    · show 0 ≤ (i 3).val ∧ (i 3).val < 0 + 1024; omega

theorem pieces_disjoint (a b : Fin 2 × Fin 2) (h : a ≠ b) : Disjoint (pieceSet a) (pieceSet b) := by
  rw [Finset.disjoint_left]
  intro i ha hb
  have ha := (mem_piece a.1 a.2 i).mp ha
  have hb := (mem_piece b.1 b.2 i).mp hb
  exact h (Prod.ext (Fin.ext (ha.1.symm.trans hb.1)) (Fin.ext (ha.2.symm.trans hb.2)))

theorem pieces_cover : (Finset.univ : Finset (Fin 2 × Fin 2)).biUnion pieceSet = Finset.univ := by
  ext i
  simp only [Finset.mem_biUnion, Finset.mem_univ, true_and, iff_true]
  exact ⟨((⟨(i 0).val, (i 0).isLt⟩ : Fin 2), (⟨(i 1).val, (i 1).isLt⟩ : Fin 2)), (mem_piece _ _ i).mpr ⟨rfl, rfl⟩⟩

theorem bigSep_pieces (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

theorem slots_of_whole (c : Dev nD) (f : Buf (Elt F) ((c : Thread nD τ).loc cc0_scratch0)) :
    (((c : Thread nD τ).loc cc0_scratch0) ↦{fullShare} f : sProp 𝕄) ⊢ iprop(slotAny c 0 ∗ slotAny c 1) := by
  have h : (((c : Thread nD τ).loc cc0_scratch0) ↦{fullShare} f : sProp 𝕄)
      = bigSep Finset.univ fun sj : Fin 2 × Fin 2 => (((c : Thread nD τ).loc cc0_scratch0) ↦[pieceSet sj]{fullShare} f) := by
    refine Eq.trans ?_ (pointsTo_biUnion (ℓ := (c : Thread nD τ).loc cc0_scratch0) (q := fullShare) (f := f) Finset.univ pieceSet (fun a _ b _ hab => pieces_disjoint a b hab))
    rw [pieces_cover]
  have hp (s j : Fin 2) : (((c : Thread nD τ).loc cc0_scratch0) ↦[pieceSet (s, j)]{fullShare} f : sProp 𝕄) ⊢ pieceAny c s j := by
    unfold pieceAny
    iintro H
    iexists ((piece s j).view.read (Elt F) f)
    rw [owns_iff]
    iexists f
    isplitr; · ipureintro; rfl
    iexact H
  rw [h, bigSep_pieces]
  unfold slotAny
  iintro ⟨H0, H1, H2, H3⟩
  isplitl [H0 H1]
  · isplitl [H0]
    · iapply (hp 0 0); iexact H0
    iapply (hp 0 1); iexact H1
  isplitl [H2]
  · iapply (hp 1 0); iexact H2
  iapply (hp 1 1); iexact H3

theorem whole_of_slots (c : Dev nD) :
    iprop(slotAny c 0 ∗ slotAny c 1) ⊢ (iprop(∃ f : Buf (Elt F) ((c : Thread nD τ).loc cc0_scratch0), ((c : Thread nD τ).loc cc0_scratch0) ↦{fullShare} f) : sProp 𝕄) := by
  have hp (s j : Fin 2) : pieceAny c s j ⊢ (iprop(∃ f : Buf (Elt F) ((c : Thread nD τ).loc cc0_scratch0), ((c : Thread nD τ).loc cc0_scratch0) ↦[pieceSet (s, j)]{fullShare} f) : sProp 𝕄) := by
    unfold pieceAny
    iintro ⟨%X, H⟩
    ihave H := (Entails.of_eq (owns_iff c (piece s j) fullShare X)) $$ H
    icases H with ⟨%f, -, H⟩
    iexists f
    iexact H
  unfold slotAny
  iintro ⟨⟨H0, H1⟩, H2, H3⟩
  ihave H0 := (hp 0 0) $$ H0
  ihave H1 := (hp 0 1) $$ H1
  ihave H2 := (hp 1 0) $$ H2
  ihave H3 := (hp 1 1) $$ H3
  icases H0 with ⟨%f0, H0⟩
  icases H1 with ⟨%f1, H1⟩
  icases H2 with ⟨%f2, H2⟩
  icases H3 with ⟨%f3, H3⟩
  ihave H := (pointsTo_biUnion_join (ℓ := (c : Thread nD τ).loc cc0_scratch0) (q := fullShare) Finset.univ pieceSet
      (fun sj : Fin 2 × Fin 2 => match sj with | (0, 0) => f0 | (0, 1) => f1 | (1, 0) => f2 | (1, 1) => f3) f0
      (fun a _ b _ hab => pieces_disjoint a b hab)) $$ [H0 H1 H2 H3]
  · rw [bigSep_pieces]
    isplitl [H0]; · iexact H0
    isplitl [H1]; · iexact H1
    isplitl [H2]; · iexact H2
    iexact H3
  icases H with ⟨%g, -, H⟩
  iexists g
  rw [pieces_cover]
  iexact H

/-! ## The proof data -/

/-- What the launch gives a device. -/
def start (c : Dev nD) : sProp 𝕄 :=
  iprop((∃ K, ghost m ρ K c) ∗ levAts L lv ∗ (((c : Thread nD τ).loc main_arg2) ↦{fullShare} fK m ρ c) ∗ (((c : Thread nD τ).loc main_arg3) ↦{fullShare} fV m ρ c)
    ∗ semVal ((c : Thread nD τ), .dma kS) 0 ∗ semVal ((c : Thread nD τ), .dma vS) 0)

def Φ₀ (c : Dev nD) : sProp 𝕄 := iprop(start m ρ c ∗ Pipeline.scopedRest spec0 c)
def Φ₁ (c : Dev nD) : sProp 𝕄 := iprop(zeros c ∗ kit c (fK m ρ c) (fV m ρ c) ∗ slotAny c 0 ∗ slotAny c 1)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m ρ c
    | ⟨1, _⟩ => wC m ρ 0 c
    | ⟨2, _⟩ => wC m ρ 1 c
    | ⟨3, _⟩ => outAt m ρ c
  Φ t := match t with
    | ⟨0, _⟩ => Φ₀ m ρ c
    | ⟨_ + 1, _⟩ => Φ₁ m ρ c
  q _ := fullShare
  owed t := match t with
    | ⟨0, _⟩ => owe c 9
    | ⟨_ + 1, _⟩ => 0

/-! ## The obligation -/

theorem kit_of_rest (c : Dev nD) (a : Buf (Elt F) (kH.view.loc (c : Thread nD τ))) (b : Buf (Elt F) (vH.view.loc (c : Thread nD τ))) :
    iprop((((c : Thread nD τ).loc main_arg2) ↦{fullShare} a) ∗ (((c : Thread nD τ).loc main_arg3) ↦{fullShare} b)
        ∗ semVal ((c : Thread nD τ), .dma kS) 0 ∗ semVal ((c : Thread nD τ), .dma vS) 0 ∗ Pipeline.scopedRest spec0 c)
      ⊢ (iprop(kit c a b ∗ slotAny c 0 ∗ slotAny c 1) : sProp 𝕄) := by
  rw [scopedRest0_eq]
  unfold kit
  iintro ⟨HK, HV, Hk, Hv, ⟨%f0, H0⟩, ⟨%f1, H1⟩, ⟨%f2, H2⟩, ⟨%f3, H3⟩⟩
  isplitr [H0]
  · isplitl [HK]; · iexact HK
    isplitl [HV]; · iexact HV
    isplitl [H1]; · iexists f1; rw [owns_whole]; iexact H1
    isplitl [H2]; · iexists f2; rw [owns_whole]; iexact H2
    isplitl [H3]; · iexists f3; rw [owns_whole]; iexact H3
    isplitl [Hk] <;> iassumption
  iapply (slots_of_whole c f0)
  iexact H0

theorem rest_of_kit (c : Dev nD) (a : Buf (Elt F) (kH.view.loc (c : Thread nD τ))) (b : Buf (Elt F) (vH.view.loc (c : Thread nD τ))) :
    (iprop(kit c a b ∗ slotAny c 0 ∗ slotAny c 1) : sProp 𝕄)
      ⊢ iprop((((c : Thread nD τ).loc main_arg2) ↦{fullShare} a) ∗ (((c : Thread nD τ).loc main_arg3) ↦{fullShare} b)
        ∗ semVal ((c : Thread nD τ), .dma kS) 0 ∗ semVal ((c : Thread nD τ), .dma vS) 0 ∗ Pipeline.scopedRest spec0 c) := by
  rw [scopedRest0_eq]
  unfold kit
  iintro ⟨⟨HK, HV, ⟨%f1, H1⟩, ⟨%f2, H2⟩, ⟨%f3, H3⟩, Hk, Hv⟩, Hs⟩
  ihave H0 := (whole_of_slots c) $$ Hs
  isplitl [HK]; · iexact HK
  isplitl [HV]; · iexact HV
  isplitl [Hk]; · iexact Hk
  isplitl [Hv]; · iexact Hv
  isplitl [H0]; · iexact H0
  isplitl [H1]; · iexists f1; iapply (Entails.of_eq (owns_whole c cc0_scratch1 fullShare f1)); iexact H1
  isplitl [H2]; · iexists f2; iapply (Entails.of_eq (owns_whole c cc0_scratch2 fullShare f2)); iexact H2
  iexists f3; iapply (Entails.of_eq (owns_whole c cc0_scratch3 fullShare f3)); iexact H3

theorem before_x (c : Dev nD) (d) : (dats m ρ 0 c).before (0 : Fin 4) t0_0 d = xC m ρ c := by
  unfold Dat.before; rw [if_pos (fetch0_0 t0_0)]; rfl
theorem before_wq (c : Dev nD) (d) : (dats m ρ 0 c).before (1 : Fin 4) t0_0 d = wC m ρ 0 c := by
  unfold Dat.before; rw [if_pos (fetch0_1 t0_0)]; rfl
theorem before_wo (c : Dev nD) (d) : (dats m ρ 0 c).before (2 : Fin 4) t0_0 d = wC m ρ 1 c := by
  unfold Dat.before; rw [if_pos (fetch0_2 t0_0)]; rfl

def bodyPre (c : Dev nD) : sProp 𝕄 :=
  iprop(Φ₀ m ρ c ∗ (dats m ρ 0 c).owesAt () t0_0.castSucc
    ∗ (∃ d, owns (c : Thread nD τ) xM fullShare ((dats m ρ 0 c).before (0 : Fin 4) t0_0 d))
    ∗ (∃ d, owns (c : Thread nD τ) wqM fullShare ((dats m ρ 0 c).before (1 : Fin 4) t0_0 d))
    ∗ (∃ d, owns (c : Thread nD τ) woM fullShare ((dats m ρ 0 c).before (2 : Fin 4) t0_0 d))
    ∗ (∃ d, owns (c : Thread nD τ) outM fullShare ((dats m ρ 0 c).before (3 : Fin 4) t0_0 d)))

def bodyPost (c : Dev nD) : sProp 𝕄 :=
  iprop(Φ₁ m ρ c ∗ (dats m ρ 0 c).owesAt () t0_0.succ
    ∗ owns (c : Thread nD τ) xM fullShare (xC m ρ c)
    ∗ owns (c : Thread nD τ) wqM fullShare (wC m ρ 0 c)
    ∗ owns (c : Thread nD τ) woM fullShare (wC m ρ 1 c)
    ∗ owns (c : Thread nD τ) outM fullShare (outAt m ρ c))

theorem body_sound (c : Dev nD) : bodyPre m ρ c ⊢ wp frame (wpE (defs₀ (F := F)) 𝒱₀ (c : Thread nD τ) none) Set.univ body (fun _ => bodyPost m ρ c) := by
  unfold bodyPre Φ₀ start
  iintro ⟨⟨⟨⟨%K, Hg⟩, #Hlev, HK, HV, Hk, Hv⟩, Hr⟩, Ho, ⟨%d0, Hx⟩, ⟨%d1, Hq⟩, ⟨%d2, Hw⟩, ⟨%d3, HY⟩⟩
  rw [before_x, before_wq, before_wo]
  unfold Dat.owesAt Pipeline.owesWithin
  icases Ho with ⟨%W, %hW, HO⟩
  rw [show (dats m ρ 0 c).owed t0_0.castSucc = owe c 9 from rfl]
  ihave H := (kit_of_rest c (fK m ρ c) (fV m ρ c)) $$ [HK HV Hk Hv Hr]
  · isplitl [HK]; · iexact HK
    isplitl [HV]; · iexact HV
    isplitl [Hk]; · iexact Hk
    isplitl [Hv] <;> iassumption
  icases H with ⟨Hkit, Hs0, Hs1⟩
  iapply (body_run m ρ K c ((dats m ρ 0 c).before (3 : Fin 4) t0_0 d3)) $$ [Hg Hkit Hs0 Hs1 HO Hx Hq Hw HY]
  · isplitl [Hg]; · iexact Hg
    isplitr; · iexact Hlev
    isplitl [Hq Hw]
    · unfold duo
      isplitl [Hq]; · iexact Hq
      iexact Hw
    isplitl [Hx HY Hkit HO]
    · unfold desk debts
      isplitl [Hx]; · iexact Hx
      isplitl [HY]; · iexact HY
      isplitl [Hkit]; · iexact Hkit
      iexists W; iexact HO
    isplitl [Hs0] <;> iassumption
  unfold bodyPost Φ₁ desk debts duo Dat.owesAt Pipeline.owesWithin
  rw [show (dats m ρ 0 c).owed t0_0.succ = 0 from rfl]
  iintro ⟨Hz, ⟨Hq, Hw⟩, ⟨Hx, HY, Hkit, ⟨%W', HO⟩⟩, Hs0, Hs1⟩
  isplitl [Hz Hkit Hs0 Hs1]
  · isplitl [Hz]; · iexact Hz
    isplitl [Hkit]; · iexact Hkit
    isplitl [Hs0] <;> iassumption
  isplitl [HO]
  · iexists W'
    isplitr; · ipureintro; exact fun _ _ => Or.inl trivial
    iexact HO
  isplitl [Hx]; · iexact Hx
  isplitl [Hq]; · iexact Hq
  isplitl [Hw]; · iexact Hw
  iexact HY

theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ (c : Thread nD τ) none) Set.univ
    (cc0_body (F := F) xM (Memref.isWhole_whole _) wqM (Memref.isWhole_whole _) kH (Memref.isWhole_whole _) vH (Memref.isWhole_whole _) woM (Memref.isWhole_whole _) outM (Memref.isWhole_whole _) commM (Memref.isWhole_whole _) kM (Memref.isWhole_whole _) vM (Memref.isWhole_whole _) ctxM (Memref.isWhole_whole _) cc0_scratch4 cc0_scratch5 cc0_scratch6 cc0_scratch7) (fun _ => bodyPost m ρ c)
  rw [body_eq]
  exact body_sound m ρ c

end Cert.KernelIdeal.Ring
end
-- ==== Proof.Deal.lean ====
/-
# The cells at launch: who holds which token, and the credits
-/
module

public import proofs.«01_k».proof.Proof.Data

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem bigSep_kd (Φ : Kd → sProp 𝕄) : bigSep Finset.univ Φ
    = iprop(Φ .bar ∗ Φ .cred ∗ Φ (.send 0 0) ∗ Φ (.send 0 1) ∗ Φ (.send 1 0) ∗ Φ (.send 1 1) ∗ Φ (.send 2 0) ∗ Φ (.send 2 1)
      ∗ Φ (.recv 0 0) ∗ Φ (.recv 0 1) ∗ Φ (.recv 1 0) ∗ Φ (.recv 1 1) ∗ Φ (.recv 2 0) ∗ Φ (.recv 2 1)) :=
  bigSep_univ_eq_bigSepL kdAll rfl (by decide) Φ

theorem bigSep_opt (Φ : Option Kd → sProp 𝕄) : bigSep Finset.univ Φ = iprop(Φ none ∗ bigSep Finset.univ fun k => Φ (some k)) := by
  have h : (Finset.univ : Finset (Option Kd)) = insert none (Finset.univ.map Function.Embedding.some) := by decide
  rw [h, bigSep_insert (by decide), bigSep_map]
  rfl

/-! ## The element the launch mints -/

def cellEmb : Dev nD × Kd ↪ GSem nD τ sig := ⟨fun ck => kcell ck.1 ck.2, fun a b h => Prod.ext (kcell_inj h).1 (kcell_inj h).2⟩
def ringCells : Finset (GSem nD τ sig) := Finset.univ.map cellEmb

/-- A device's own tokens: each cell's `false`, and the barrier's `true`. -/
def tokOf (co : Dev nD × Option Kd) : GSem nD τ sig × ℕ × Bool :=
  match co.2 with
  | none => (kcell co.1 .bar, 0, true)
  | some k => (kcell co.1 k, 0, false)

theorem tokOf_injective : Function.Injective tokOf := by
  rintro ⟨c, o⟩ ⟨c', o'⟩ h
  cases o with
  | none =>
    cases o' with
    | none => exact Prod.ext (kcell_inj (congrArg Prod.fst h)).1 rfl
    | some k => exact absurd (congrArg (fun x : GSem nD τ sig × ℕ × Bool => x.2.2) h) Bool.noConfusion
  | some k =>
    cases o' with
    | none => exact absurd (congrArg (fun x : GSem nD τ sig × ℕ × Bool => x.2.2) h) Bool.noConfusion
    | some k' =>
      obtain ⟨h1, h2⟩ := kcell_inj (congrArg Prod.fst h)
      exact Prod.ext h1 (congrArg some h2)

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

def tok (co : Dev nD × Option Kd) : sProp 𝕄 := dutyTok ER (tokOf co).1 (tokOf co).2.1 (tokOf co).2.2

def atCells (c : Dev nD) : sProp 𝕄 := bigSep Finset.univ fun k : Kd => atPos ER (kcell c k) 0 ∅ 0
def reachedCells (c : Dev nD) : sProp 𝕄 := bigSep Finset.univ fun k : Kd => reached ER (kcell c k) 0
def stateCells (c : Dev nD) : sProp 𝕄 := bigSep Finset.univ fun k : Kd => roundState ER (ringRd m ρ) (kcell c k) 0
def toks (c : Dev nD) : sProp 𝕄 := bigSep Finset.univ fun o : Option Kd => tok (c, o)

def G (c : Dev nD) : sProp 𝕄 := iprop(stateCells m ρ c ∗ atCells c ∗ reachedCells c ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Kd => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  rw [bigSep_sep', bigSep_sep', bigSep_sep']
  isplitl [Hst]; · iexact Hst
  isplitl [Hat]; · iexact Hat
  isplitl [Hr]; · iexact Hr
  iexact Htok

/-! ## The semaphores -/

/-- The kernel's own: the credit, the sends, the receives, the two local copies. -/
abbrev osem : Fin 15 → SemLoc sig := fun
  | 0 => csem .cred
  | 1 => csem (.send 0 0) | 2 => csem (.send 0 1) | 3 => csem (.send 1 0) | 4 => csem (.send 1 1) | 5 => csem (.send 2 0) | 6 => csem (.send 2 1)
  | 7 => csem (.recv 0 0) | 8 => csem (.recv 0 1) | 9 => csem (.recv 1 0) | 10 => csem (.recv 1 1) | 11 => csem (.recv 2 0) | 12 => csem (.recv 2 1)
  | 13 => .dma kS | 14 => .dma vS

set_option maxRecDepth 8000 in
theorem ownSemFacts : Pipeline.OwnSemFacts cfg0.spec osem := by decide +kernel

abbrev ownSems (c : Dev nD) : sProp 𝕄 := Pipeline.ownSems0 (Ix := Unit) (Name := ℕ) (U := UU) (Lvl := ℕ) (Val := Elt F) (τ := τ) osem c

theorem ownSems_eq (c : Dev nD) : (ownSems c : sProp 𝕄)
    = iprop(semVal (kcell c .cred) 0 ∗ semVal (kcell c (.send 0 0)) 0 ∗ semVal (kcell c (.send 0 1)) 0 ∗ semVal (kcell c (.send 1 0)) 0 ∗ semVal (kcell c (.send 1 1)) 0 ∗ semVal (kcell c (.send 2 0)) 0 ∗ semVal (kcell c (.send 2 1)) 0
      ∗ semVal (kcell c (.recv 0 0)) 0 ∗ semVal (kcell c (.recv 0 1)) 0 ∗ semVal (kcell c (.recv 1 0)) 0 ∗ semVal (kcell c (.recv 1 1)) 0 ∗ semVal (kcell c (.recv 2 0)) 0 ∗ semVal (kcell c (.recv 2 1)) 0
      ∗ semVal ((c : Thread nD τ), .dma kS) 0 ∗ semVal ((c : Thread nD τ), .dma vS) 0) := by
  rw [show (ownSems c : sProp 𝕄) = _ from Pipeline.ownSems0_eq_of_list c osem [0, 1, 2, 3, 4, 5, 6, 7, 8, 9, 10, 11, 12, 13, 14] (by decide) (by decide)]; rfl

theorem unscopedSems_eq (c : Dev nD) : (unscopedSems0 c : sProp 𝕄) = semVal (kcell c .bar) 0 := by
  unfold unscopedSems0; rw [bigSep_eq_bigSepL_of_eq [SemLoc.reg barS] (by decide) (by decide)]; rfl

/-- The two local copies' counters. -/
def copies (c : Dev nD) : sProp 𝕄 := iprop(semVal ((c : Thread nD τ), .dma kS) 0 ∗ semVal ((c : Thread nD τ), .dma vS) 0)

theorem sems_split (c : Dev nD) : iprop(ownSems c ∗ unscopedSems0 c) ⊢ (iprop((bigSep Finset.univ fun k : Kd => semVal (kcell c k) 0) ∗ copies c) : sProp 𝕄) := by
  rw [ownSems_eq, unscopedSems_eq, bigSep_kd]
  unfold copies
  iintro ⟨⟨H1, H2, H3, H4, H5, H6, H7, H8, H9, H10, H11, H12, H13, Hk, Hv⟩, HB⟩
  isplitr [Hk Hv]
  · isplitl [HB]; · iexact HB
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [Hk] <;> iassumption

theorem sems_join (c : Dev nD) : iprop(zeros c ∗ copies c) ⊢ (iprop(unscopedSems0 c ∗ ownSems c) : sProp 𝕄) := by
  rw [ownSems_eq, unscopedSems_eq]
  unfold copies zeros landed
  iintro ⟨⟨HB, HC, ⟨⟨S1, R1⟩, S2, R2⟩, ⟨⟨S3, R3⟩, S4, R4⟩, ⟨S5, R5⟩, S6, R6⟩, Hk, Hv⟩
  isplitl [HB]; · iexact HB
  isplitl [HC]; · iexact HC
  isplitl [S1]; · iexact S1
  isplitl [S2]; · iexact S2
  isplitl [S3]; · iexact S3
  isplitl [S4]; · iexact S4
  isplitl [S5]; · iexact S5
  isplitl [S6]; · iexact S6
  isplitl [R1]; · iexact R1
  isplitl [R2]; · iexact R2
  isplitl [R3]; · iexact R3
  isplitl [R4]; · iexact R4
  isplitl [R5]; · iexact R5
  isplitl [R6]; · iexact R6
  isplitl [Hk] <;> iassumption

/-! ## The invariants, and the tokens dealt around the ring -/

def cellNames (c : Dev nD) : sProp 𝕄 := bigSep Finset.univ fun k : Kd => iprop(∃ κ : ℕ, cellInv ER (ringRd m ρ) κ (kcell c k))

theorem core_alloc (c : Dev nD) :
    iprop(ownSems c ∗ unscopedSems0 c ∗ G m ρ c)
      ⊢ |={Set.univ}=> iprop(cellNames m ρ c ∗ atCells c ∗ reachedCells c ∗ toks c ∗ copies c) := by
  have hall : iprop((bigSep Finset.univ fun k : Kd => semVal (kcell c k) 0) ∗ stateCells m ρ c) ⊢ (|={Set.univ}=> cellNames m ρ c : sProp 𝕄) := by
    unfold stateCells cellNames
    rw [← bigSep_sep']
    exact (bigSep_mono fun k _ => (Rounds.body_intro ER (ringRd m ρ) (kcell c k)).trans inv_alloc).trans (bigSep_fupd _ _)
  unfold G
  iintro ⟨Hos, Hus, Hst, Hat, Hr, Htok⟩
  ihave H := (sems_split (F := F) c) $$ [Hos Hus]
  · isplitl [Hos] <;> iassumption
  icases H with ⟨Hv, Hc⟩
  imod hall $$ [Hv Hst] with Hinv
  · isplitl [Hv] <;> iassumption
  imodintro
  isplitl [Hinv]; · iexact Hinv
  isplitl [Hat]; · iexact Hat
  isplitl [Hr]; · iexact Hr
  isplitl [Htok] <;> iassumption

/-- Whose cell a device pays with each token. -/
def around : Option Kd → Dev nD ≃ Dev nD
  | none => ring.symm
  | some .bar => ring
  | some .cred => ring.symm
  | some (.send _ _) => Equiv.refl _
  | some (.recv _ _) => ring

def aroundAll : Dev nD × Option Kd ≃ Dev nD × Option Kd where
  toFun co := (around co.2 co.1, co.2)
  invFun co := ((around co.2).symm co.1, co.2)
  left_inv co := by simp
  right_inv co := by simp

def payToks (c : Dev nD) : sProp 𝕄 := bigSep Finset.univ fun o : Option Kd => tok (around o c, o)

theorem toks_around : (bigSep Finset.univ fun c : Dev nD => (toks c : sProp 𝕄)) = bigSep Finset.univ fun c : Dev nD => payToks c := by
  unfold toks payToks
  rw [← bigSep_univ_prod (fun co : Dev nD × Option Kd => (tok co : sProp 𝕄)), bigSep_univ_equiv aroundAll, bigSep_univ_prod]
  rfl

def G' (c : Dev nD) : sProp 𝕄 := iprop((∃ K, records m ρ K) ∗ atCells c ∗ payToks c ∗ copies c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop(cellNames m ρ c ∗ atCells c ∗ reachedCells c ∗ toks c ∗ copies c) : sProp 𝕄)
      ⊢ bigSep Finset.univ (G' m ρ) := by
  rw [bigSep_sep', bigSep_sep', bigSep_sep', bigSep_sep', toks_around]
  unfold cellNames reachedCells
  rw [← bigSep_univ_prod (fun ck : Dev nD × Kd => iprop(∃ κ : ℕ, cellInv ER (ringRd m ρ) κ (kcell ck.1 ck.2))),
    ← bigSep_univ_prod (fun ck : Dev nD × Kd => (reached ER (kcell ck.1 ck.2) 0 : sProp 𝕄))]
  iintro ⟨HI, Hat, #HR, Htok, Hc⟩
  ihave HK := (BI.bigSep_exists_pi Finset.univ (fun (ck : Dev nD × Kd) (κ : ℕ) => (cellInv ER (ringRd m ρ) κ (kcell ck.1 ck.2) : sProp 𝕄))) $$ HI
  icases HK with ⟨%K, #HI⟩
  have h : ∀ c ∈ (Finset.univ : Finset (Dev nD)), iprop(records m ρ K ∗ atCells c ∗ payToks c ∗ copies c) ⊢ G' m ρ c := fun c _ => by
    unfold G'
    iintro ⟨HR, H⟩
    isplitl [HR]; · iexists K; iexact HR
    iexact H
  iapply (bigSep_with_persistent (R := records m ρ K) h)
  isplitr
  · unfold records; isplitl; · iexact HI
    iexact HR
  rw [bigSep_sep', bigSep_sep']
  isplitl [Hat]; · iexact Hat
  isplitl [Htok] <;> iassumption

theorem glob : (bigSep Finset.univ fun c => iprop(ownSems c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What is owed at a cell, payment by payment. -/
theorem owe_at (d c : Dev nD) (k : Kd) : ∀ n, owe d n (kcell c k) () = ∑ i ∈ Finset.range n, if payDev d i = c then (if payKd i = k then amt k else 0) else 0
  | 0 => rfl
  | n + 1 => by
    rw [Finset.sum_range_succ, ← owe_at d c k n]
    show owe d n (kcell c k) () + tallyAt (kcell (payDev d n) (payKd n)) () (amt (payKd n)) (kcell c k) () = _
    rw [tallyAt_apply]
    congr 1
    by_cases hd : payDev d n = c
    · by_cases hk : payKd n = k
      · subst hd hk; rw [if_pos ⟨rfl, rfl⟩, if_pos rfl, if_pos rfl]
      · rw [if_neg fun h => hk (kcell_inj h.1).2.symm, if_pos hd, if_neg hk]
    · rw [if_neg fun h => hd (kcell_inj h.1).1.symm, if_neg hd]

/-- The device whose payment `i` is at `c`. -/
def payer (c : Dev nD) : ℕ → Dev nD
  | 2 => nxt c | 8 => nxt c | _ => prv c

theorem payer_iff : ∀ i : Fin 9, ∀ d c : Dev nD, payDev d i.val = c ↔ d = payer c i.val := by decide

/-- What a cell is paid in all. -/
def due : Kd → ℕ
  | .bar => 2 | .cred => 1 | .send _ _ => 0 | .recv _ _ => N

def times (k : Kd) : ℕ := ((Finset.range 9).filter fun i => payKd i = k).card

theorem times_recv : ∀ h j, times (.recv h j) = 1 := by decide +kernel
theorem times_send : ∀ h j, times (.send h j) = 0 := by decide +kernel

theorem times_amt (k : Kd) : times k * amt k = due k := by
  cases k with
  | bar => rfl
  | cred => rfl
  | send h j => rw [times_send, Nat.zero_mul]; rfl
  | recv h j => rw [times_recv, Nat.one_mul]; rfl

theorem owe_total (c : Dev nD) (k : Kd) : ∑ d : Dev nD, owe d 9 (kcell c k) () = due k := by
  rw [Finset.sum_congr rfl fun d _ => owe_at d c k 9, Finset.sum_comm, ← times_amt]
  have h : ∀ i ∈ Finset.range 9, (∑ d : Dev nD, if payDev d i = c then (if payKd i = k then amt k else 0) else 0) = if payKd i = k then amt k else 0 := fun i hi => by
    rw [Finset.sum_congr rfl fun d _ => if_congr (payer_iff ⟨i, Finset.mem_range.mp hi⟩ d c) rfl rfl,
      Finset.sum_ite_eq' Finset.univ (payer c i) fun _ => if payKd i = k then amt k else 0, if_pos (Finset.mem_univ _)]
  rw [Finset.sum_congr rfl h, ← Finset.sum_filter, Finset.sum_const, smul_eq_mul]
  rfl

abbrev O₀ (c : Dev nD) : CellTallies nD τ sig Unit := owe c 9

theorem launch_due (c : Dev nD) (k : Kd) :
    tallyOn (kcell c k) (launchCredit (Pipeline.owing O₀) 0 (kcell c k)) = (tallyAt (kcell c k) () (due k) : CellTallies nD τ sig Unit) := by
  unfold tallyAt; refine congrArg _ (Finsupp.ext fun u => ?_); cases u
  rw [Pipeline.launchCredit_owing, Finsupp.single_eq_same]
  exact owe_total c k

theorem creds (c : Dev nD) : (Pipeline.launchCred O₀ c : sProp 𝕄) ⊢ bigSep Finset.univ fun k : Kd => cred (tallyAt (kcell c k) () (due k)) := by
  unfold Pipeline.launchCred
  refine (bigSep_subset (Finset.subset_univ (Finset.univ.map (⟨csem, fun a b => csem_inj a b⟩ : Kd ↪ SemLoc sig)))).trans ?_
  rw [bigSep_map]
  exact bigSep_mono fun k _ => Entails.of_eq (congrArg cred (launch_due c k))

/-- The tokens by name. -/
theorem payToks_eq (c : Dev nD) : (payToks c : sProp 𝕄)
    = iprop(dutyTok ER (kcell (prv c) .bar) 0 true ∗ dutyTok ER (kcell (nxt c) .bar) 0 false ∗ dutyTok ER (kcell (prv c) .cred) 0 false
      ∗ dutyTok ER (kcell c (.send 0 0)) 0 false ∗ dutyTok ER (kcell c (.send 0 1)) 0 false ∗ dutyTok ER (kcell c (.send 1 0)) 0 false
      ∗ dutyTok ER (kcell c (.send 1 1)) 0 false ∗ dutyTok ER (kcell c (.send 2 0)) 0 false ∗ dutyTok ER (kcell c (.send 2 1)) 0 false
      ∗ dutyTok ER (kcell (nxt c) (.recv 0 0)) 0 false ∗ dutyTok ER (kcell (nxt c) (.recv 0 1)) 0 false ∗ dutyTok ER (kcell (nxt c) (.recv 1 0)) 0 false
      ∗ dutyTok ER (kcell (nxt c) (.recv 1 1)) 0 false ∗ dutyTok ER (kcell (nxt c) (.recv 2 0)) 0 false ∗ dutyTok ER (kcell (nxt c) (.recv 2 1)) 0 false) := by
  unfold payToks
  rw [bigSep_opt, bigSep_kd]
  rfl

/-- All of it is what the body starts from. -/
theorem ghost_intro (K : Dev nD × Kd → ℕ) (c : Dev nD) :
    iprop(records m ρ K ∗ atCells c ∗ payToks c ∗ bigSep Finset.univ fun k : Kd => cred (tallyAt (kcell c k) () (due k))) ⊢ ghost m ρ K c := by
  rw [payToks_eq]
  unfold ghost fare atCells
  rw [bigSep_kd, bigSep_kd]
  iintro ⟨Hr, ⟨ab, ac, as1, as2, as3, as4, as5, as6, ar1, ar2, ar3, ar4, ar5, ar6⟩, ⟨tt, tb, tc, ts1, ts2, ts3, ts4, ts5, ts6, tr1, tr2, tr3, tr4, tr5, tr6⟩,
    cb, cc, -, -, -, -, -, -, cr1, cr2, cr3, cr4, cr5, cr6⟩
  isplitl [Hr]; · iexact Hr
  isplitl [tt tb ab cb]
  · isplitl [tt]; · iexact tt
    isplitl [tb]; · iexact tb
    isplitl [ab]; · iexact ab
    iexact cb
  isplitl [tc ac cc]
  · isplitl [tc]; · iexact tc
    isplitl [ac]; · iexact ac
    iexact cc
  isplitl [ts1 tr1 as1 ar1 cr1 ts2 tr2 as2 ar2 cr2]
  · isplitl [ts1 tr1 as1 ar1 cr1]
    · isplitl [ts1]; · iexact ts1
      isplitl [tr1]; · iexact tr1
      isplitl [as1]; · iexact as1
      isplitl [ar1]; · iexact ar1
      iexact cr1
    isplitl [ts2]; · iexact ts2
    isplitl [tr2]; · iexact tr2
    isplitl [as2]; · iexact as2
    isplitl [ar2]; · iexact ar2
    iexact cr2
  isplitl [ts3 tr3 as3 ar3 cr3 ts4 tr4 as4 ar4 cr4]
  · isplitl [ts3 tr3 as3 ar3 cr3]
    · isplitl [ts3]; · iexact ts3
      isplitl [tr3]; · iexact tr3
      isplitl [as3]; · iexact as3
      isplitl [ar3]; · iexact ar3
      iexact cr3
    isplitl [ts4]; · iexact ts4
    isplitl [tr4]; · iexact tr4
    isplitl [as4]; · iexact as4
    isplitl [ar4]; · iexact ar4
    iexact cr4
  isplitl [ts5 tr5 as5 ar5 cr5]
  · isplitl [ts5]; · iexact ts5
    isplitl [tr5]; · iexact tr5
    isplitl [as5]; · iexact as5
    isplitl [ar5]; · iexact ar5
    iexact cr5
  isplitl [ts6]; · iexact ts6
  isplitl [tr6]; · iexact tr6
  isplitl [as6]; · iexact as6
  isplitl [ar6]; · iexact ar6
  iexact cr6

end Cert.KernelIdeal.Ring
end
-- ==== Proof.Launch.lean ====
/-
# The launch, and the run from any memory
-/
module

public import proofs.«01_k».proof.Proof.Deal
public import Idealize.ShloMosaic.Lib.Pipeline.CollectiveSegs
public import Idealize.ShloMosaic.Lib.Quiescent

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G' copies start
  iintro ⟨⟨HK, HV⟩, Hlev, Hcr, -, ⟨%K, HR⟩, Hat, Htok, Hk, Hv⟩
  ihave Hc := (creds (F := F) c) $$ Hcr
  imodintro
  isplitl
  · isplitl [HR Hat Htok Hc]
    · iexists K
      iapply (ghost_intro m ρ K c)
      isplitl [HR]; · iexact HR
      isplitl [Hat]; · iexact Hat
      isplitl [Htok] <;> iassumption
    isplitl [Hlev]; · iexact Hlev
    isplitl [HK]; · iexact HK
    isplitl [HV]; · iexact HV
    isplitl [Hk] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

/-- What a device keeps to the end: its unscoped semaphore and the two arrays no window names. -/
def final (c : Dev nD) : sProp 𝕄 :=
  iprop(unscopedSems0 c ∗ (((c : Thread nD τ).loc main_arg2) ↦{fullShare} fK m ρ c) ∗ (((c : Thread nD τ).loc main_arg3) ↦{fullShare} fV m ρ c))

theorem phi1_exit (c : Dev nD) :
    (dats m ρ 0 c).Φ (Fin.last cfg0.N) ⊢ iprop(final m ρ c ∗ ownSems c ∗ Pipeline.scopedRest cfg0.spec c) := by
  rw [show (dats m ρ 0 c).Φ (Fin.last cfg0.N) = Φ₁ m ρ c from rfl]
  unfold Φ₁ final
  iintro ⟨Hz, Hkit⟩
  ihave H := (rest_of_kit c (fK m ρ c) (fV m ρ c)) $$ Hkit
  icases H with ⟨HK, HV, Hk, Hv, Hr⟩
  ihave H := (sems_join (F := F) c) $$ [Hz Hk Hv]
  · unfold copies
    isplitl [Hz]; · iexact Hz
    isplitl [Hk] <;> iassumption
  icases H with ⟨Hu, Ho⟩
  isplitl [Hu HK HV]
  · isplitl [Hu]; · iexact Hu
    isplitl [HK] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have h : lvS (SemLoc.dma (((cfgs (0 : Fin 1)).win w).sem s) : SemLoc sig) = 0 := by
      unfold lvS; rw [kindOf_none _ (by revert w s; decide +kernel)]
    rcases t with ⟨_ | _, ht⟩
    · exact mayWait_low c _ 9 (le_refl 9) h
    · exact mayWait_low c _ 0 (Nat.zero_le 9) h

/-! ## The run -/

def finalA (c : Dev nD) (w : Fin cfg0.W) : Buf (Elt F) ((cfg0.win w).arr.view.loc (c : Thread nD τ)) := (dats m ρ 0 c).arrAt w cfg0.N

/-- What a device's memory and counters end as. -/
def kept (c : Dev nD) (s : MemSt nD τ sig (Elt F)) : Prop :=
  (∀ sm : SemLoc sig, sm.isScoped .tc = false → s.sem ((c.tc : Thread nD τ), sm) = 0)
    ∧ s.mem ((c : Thread nD τ).loc main_arg2) = fK m ρ c ∧ s.mem ((c : Thread nD τ).loc main_arg3) = fV m ρ c

theorem final_read (c : Dev nD) (s' : Phys nD τ sig (Elt F)) : iprop(final m ρ c ∗ emp ∗ SI s') ⊢ (|={Set.univ}=> iprop(⌜kept m ρ c s'.mem⌝ ∗ SI s') : sProp 𝕄) := by
  have e : (bigSep ({0, 1} : Finset (Fin 2)) fun i => ((match i with | 0 => (c : Thread nD τ).loc main_arg2 | 1 => (c : Thread nD τ).loc main_arg3) ↦{fullShare} (match i with | 0 => fK m ρ c | 1 => fV m ρ c)) : sProp 𝕄)
      = iprop((((c : Thread nD τ).loc main_arg2) ↦{fullShare} fK m ρ c) ∗ (((c : Thread nD τ).loc main_arg3) ↦{fullShare} fV m ρ c)) := by
    rw [bigSep_insert (by decide), bigSep_singleton]
    rfl
  unfold final
  iintro ⟨⟨Hu, HKV⟩, -, HSI⟩
  ihave H := (pointsTo_read_all ({0, 1} : Finset (Fin 2))
    (fun i => match i with | 0 => (c : Thread nD τ).loc main_arg2 | 1 => (c : Thread nD τ).loc main_arg3)
    (fun i => match i with | 0 => fK m ρ c | 1 => fV m ρ c) s') $$ [HKV HSI]
  · isplitl [HKV]
    · iapply (Entails.of_eq e.symm); iexact HKV
    iexact HSI
  icases H with ⟨%h, HSI⟩
  imod (Pipeline.unscopedSems0_read (X := unscopedSems0 c) (c := c) fupd_intro s') $$ [Hu HSI] with H
  · isplitl [Hu] <;> iassumption
  icases H with ⟨%hs, HSI⟩
  imodintro
  isplitr
  · ipureintro
    exact ⟨hs, h 0 (by decide), h 1 (by decide)⟩
  iexact HSI

/-- Each device's arrays at the end. -/
def Ends (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg2) = fK m ρ c ∧ r.2.mem ((c : Thread nD τ).loc main_arg3) = fV m ρ c

set_option maxRecDepth 8000 in
/-- From any memory with zero counters, every fair execution on the four devices ends, with the arrays as computed and
    every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H := (show _ ⊢ iprop(BI.own (ER (F := F) (initOf ringCells ringToks)) ∗ _) from own_pair_emb _ _ _) $$ HX
      icases H with ⟨HX, -⟩
      imod (fund_ring m ρ) $$ HX with HG
      imodintro
      isplitl [HP] <;> iassumption)
    (hglob := glob m ρ)
    (hA := fun _ _ => rfl) (hpf := fun _ k => k.elim0)
    (X := start m ρ) (Y := final m ρ) (Z := fun _ => iprop(emp))
    (hX := start_intro m ρ) (hin := phi0_intro m ρ) (hout := phi1_exit m ρ)
    (QY := kept m ρ) (hY := final_read m ρ)
    (hQ := fun _ h hs => ⟨fun c => ⟨fun w => (h c).1 w, (h c).2.2.2⟩, sem_eq_zero hs fun c => (h c).2.2.1⟩)

end Cert.KernelIdeal.Ring
end
-- ==== Proof.Kept.lean ====
/-
# The arguments after the run
-/
module

public import proofs.«01_k».proof.Proof.Launch

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The arrays the windows bring in end as they were. -/
theorem final_x (c : Dev nD) : finalA m ρ c (0 : Fin 4) = m ((c : Thread nD τ).loc main_arg0) :=
  (dats (F := F) m ρ 0 c).arrAt_in (0 : Fin 4) rfl _
theorem final_wq (c : Dev nD) : finalA m ρ c (1 : Fin 4) = m ((c : Thread nD τ).loc main_arg1) :=
  (dats (F := F) m ρ 0 c).arrAt_in (1 : Fin 4) rfl _
theorem final_wo (c : Dev nD) : finalA m ρ c (2 : Fin 4) = m ((c : Thread nD τ).loc main_arg4) :=
  (dats (F := F) m ρ 0 c).arrAt_in (2 : Fin 4) rfl _

/-- The arguments end as they were. -/
theorem Ends.args {r : PUnit × MemSt nD τ sig (Elt F)} (h : Ends m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).1 (0 : Fin 4)).trans (final_x m ρ c), ((h c).1 (1 : Fin 4)).trans (final_wq m ρ c), (h c).2.1, (h c).2.2, ((h c).1 (2 : Fin 4)).trans (final_wo m ρ c)⟩

theorem run_frame : θ_run defs (onTc (τ := τ) (main (F := F))) ⟨m, fun _ => 0, ρ⟩ (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨h.1.args m ρ, h.2⟩) (run_main m ρ)

end Cert.KernelIdeal.Ring
end
-- ==== Proof.Spec.lean ====
/-
# Block-sparse attention at one row, in extended reals

The mathematics both programs compute, free of either program: which keys a row sees (`seen`), and a row's attention
output (`attend`): the scores scaled, those of unseen keys replaced by a large negative number, a softmax over all the
keys and the weighted sum of the values. The facts about the block-number words that both programs compute their masks
from are here as well.
-/
module

public import Idealize.ShloMosaic.Lib.Pointwise

@[expose] public section

noncomputable section

namespace Cert.Heads

open Idealize.ShloMosaic

/-- Whether row `r` sees key `j`: same block of 64, block 0, or block numbers adding up to a multiple of 3. -/
def seen (r j : ℕ) : BitVec 1 := BitVec.ofBool (decide (r / 64 = j / 64 ∨ j / 64 = 0 ∨ (r / 64 + j / 64) % 3 = 0))

/-- The scores as the softmax takes them: over the root of 128 where the mask lets them, minus infinity elsewhere. -/
def masked (M : Fin 2048 → BitVec 1) (s : Fin 2048 → EReal) (j : Fin 2048) : EReal :=
  Scalar.select (M j) (s j * (((Real.sqrt 128)⁻¹ : ℝ) : EReal)) ⊥

/-- The exponential of a score, the greatest taken off. -/
def grown (z : Fin 2048 → EReal) (j : Fin 2048) : EReal :=
  Ideal.exp (z j - Finset.fold max ⊥ z Finset.univ)

/-- The softmax. -/
def soft (z : Fin 2048 → EReal) (j : Fin 2048) : EReal := Ideal.div (grown z j) (∑ k, grown z k)

/-- A row's attention output: its scores `s` under the mask `M`, the values `v`. -/
def attend (M : Fin 2048 → BitVec 1) (s v : Fin 2048 → EReal) : EReal := ∑ j, soft (masked M s) j * v j

/-! ## The literals -/

/-- The words of 128 and of minus infinity. -/
theorem word_128 : Ideal.ofBits .f32 0x43000000#32 = ((128 : ℝ) : EReal) := by
  simp [Ideal.ofBits, Ideal.ieee, -EReal.coe_mul]
  norm_num

theorem word_bot : Ideal.ofBits .f32 0xFF800000#32 = ⊥ := by
  simp [Ideal.ofBits, Ideal.ieee]

/-- Dividing by the root of 128 is multiplying by its inverse. -/
theorem div_root (x : EReal) : Ideal.div x (Ideal.sqrt (Ideal.ofBits .f32 0x43000000#32)) = x * (((Real.sqrt 128)⁻¹ : ℝ) : EReal) := by
  have h : (0 : ℝ) ≤ 128 := by norm_num
  have hp : Real.sqrt 128 ≠ 0 := (Real.sqrt_pos.2 (by norm_num)).ne'
  rw [word_128, Ideal.sqrt_coe, if_neg h.not_gt, Ideal.div_coe hp, one_div]

/-! ## The words of the masks -/

/-- Rounding towards minus infinity of a word's quotient by 64, from the signs compared as the kernel does. -/
def floorV (n : BitVec 32) : BitVec 32 :=
  Scalar.select (IntOp.andi
      (IntOp.cmpi .ne (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)

/-- The mask of two block numbers. -/
def seenV (a b : BitVec 32) : BitVec 1 :=
  IntOp.ori (IntOp.ori (IntOp.cmpi .eq a b) (IntOp.cmpi .eq b 0#32)) (IntOp.cmpi .eq (IntOp.remsi .vector (IntOp.addi a b) 3#32) 0#32)

theorem floorV_ofNat : ∀ n : Fin 2048, floorV (BitVec.ofNat 32 n.val) = BitVec.ofNat 32 (n.val / 64) := by decide +kernel

theorem seenV_ofNat : ∀ a b : Fin 32, seenV (BitVec.ofNat 32 a.val) (BitVec.ofNat 32 b.val)
    = BitVec.ofBool (decide (a.val = b.val ∨ b.val = 0 ∨ (a.val + b.val) % 3 = 0)) := by decide +kernel

theorem seenV_eq (r j : Fin 2048) : seenV (floorV (BitVec.ofNat 32 r.val)) (floorV (BitVec.ofNat 32 j.val)) = seen r.val j.val := by
  rw [floorV_ofNat, floorV_ofNat]
  exact seenV_ofNat ⟨r.val / 64, by omega⟩ ⟨j.val / 64, by omega⟩

/-- The first block is seen from everywhere. -/
theorem seen_zero (r : ℕ) : seen r 0 = 1#1 := by
  unfold seen
  rw [decide_eq_true (Or.inr (Or.inl rfl))]
  rfl

/-! ## The whole output

Over the whole arrays: 4 batches, 32 heads of 128 columns. -/

/-- Head `h` of batch `b`, at row `r` and column `d`. -/
def headOf (X : (⟨3, ![4, 2048, 1024]⟩ : Shape).Idx → EReal) (Wq : (⟨2, ![1024, 4096]⟩ : Shape).Idx → EReal)
    (K V : (⟨4, ![4, 2048, 32, 128]⟩ : Shape).Idx → EReal) (b : Fin 4) (r : Fin 2048) (h : Fin 32) (d : Fin 128) : EReal :=
  attend (fun j => seen r.val j.val)
    (fun j => ∑ e : Fin 128, (∑ l : Fin 1024, X (ix3 b r l) * Wq (ix2 l ⟨h.val * 128 + e.val, by omega⟩)) * K (ix4 b j h e))
    (fun j => V (ix4 b j h d))

/-- What column `p` of the heads adds to the output of batch `b`, at row `r` and column `n`. -/
def share (X : (⟨3, ![4, 2048, 1024]⟩ : Shape).Idx → EReal) (Wq : (⟨2, ![1024, 4096]⟩ : Shape).Idx → EReal)
    (K V : (⟨4, ![4, 2048, 32, 128]⟩ : Shape).Idx → EReal) (Wo : (⟨2, ![4096, 1024]⟩ : Shape).Idx → EReal)
    (b : Fin 4) (r : Fin 2048) (n : Fin 1024) (p : Fin 4096) : EReal :=
  headOf X Wq K V b r ⟨p.val / 128, by omega⟩ ⟨p.val % 128, Nat.mod_lt _ (by decide)⟩ * Wo (ix2 p n)

/-! ## Sums regrouped -/

theorem sum_mul {M : Type} [AddCommMonoid M] (k l : ℕ) (f : Fin (k * l) → M) :
    ∑ p, f p = ∑ i : Fin k, ∑ j : Fin l, f (finProdFinEquiv (i, j)) := by
  rw [← Fintype.sum_prod_type', ← finProdFinEquiv.sum_comp]

/-- The 4096 columns by block of weights, pair of heads and column of the pair. -/
theorem sum_columns (f : Fin 4096 → EReal) :
    ∑ p, f p = ∑ b : Fin 4, ∑ o : Fin 4, ∑ q : Fin 256, f ⟨1024 * b.val + 256 * o.val + q.val, by omega⟩ := by
  refine (sum_mul 16 256 f).trans ((sum_mul 4 4 _).trans ?_)
  refine Finset.sum_congr rfl fun b _ => Finset.sum_congr rfl fun o _ => Finset.sum_congr rfl fun q _ => ?_
  congr 1
  refine Fin.ext ?_
  simp only [finProdFinEquiv_apply_val]
  omega

/-- The block of weights device `c` holds in step `g`. -/
def blockAt (c g : Fin 4) : Fin 4 := ⟨(c.val + 4 - g.val) % 4, Nat.mod_lt _ (by decide)⟩

theorem blockAt_blockAt : ∀ c g : Fin 4, blockAt c (blockAt c g) = g := by decide

/-- Every device meets every block once. -/
theorem sum_ring (c : Fin 4) (f : Fin 4 → EReal) : ∑ g, f (blockAt c g) = ∑ b, f b :=
  Equiv.sum_comp (Function.Involutive.toPerm (blockAt c) (blockAt_blockAt c)) f

end Cert.Heads
end
-- ==== Proof.Entry.lean ====
/-
# The kernel's output at an index

Over the extended reals, what each stretch adds to the output at a row and a column (`stretch_apply`): the sum over the
256 columns of its pair of heads of the head's attention output times the output weight.
-/
module

public import proofs.«01_k».proof.Proof.Trip
public import proofs.«01_k».proof.Proof.Spec
public import Idealize.ShloMosaic.PureOps.IdealRules

@[expose] public section

set_option maxRecDepth 16384

noncomputable section

namespace Cert.KernelIdeal.Ring

open Cert.KernelIdeal Cert.KernelIdeal.Gen Cert.Heads
open Idealize.ShloMosaic Idealize.ShloMosaic.TcCoe
open Idealize.SL Idealize.SL.Sem

/-- The kernel's named literals. -/
theorem named_scale : Named.named (F := Ideal) κ "scale" (φ := .f32) 0x3DB504F3#32 = (((Real.sqrt 128)⁻¹ : ℝ) : EReal) :=
  IdealRules.named_const.ideal_named_scalar _ _ _ _ rfl
theorem named_mask : Named.named (F := Ideal) κ "mask" (φ := .f32) 0xCE6E6B28#32 = ⊥ :=
  IdealRules.named_const.ideal_named_scalar _ _ _ _ rfl

theorem headOut_mask (own : Bool) (w : BitVec 32) (x : Vec Ideal S1x128x1024 .f32) (wq : Vec Ideal S1024x128 .f32) (k v : Vec Ideal S2048x1x128 .f32)
    (i d : Fin 128) :
    headOut own w x wq k v (ix2 i d)
      = attend (fun j => seenV (floorV (IntOp.addi (BitVec.ofNat 32 i.val) w)) (floorV (BitVec.ofNat 32 j.val)))
          (fun j => ∑ e : Fin 128, (∑ l : Fin 1024, x (ix3 0 i l) * wq (ix2 l e)) * k (ix3 j 0 e)) (fun j => v (ix3 j 0 d)) := by
  cases own
  · pointwise [headOut, k0_pay7, k0_pay6, k0_pay201, k0_pay200, k0_pay9, attend, soft, grown, masked, seenV, floorV, named_scale, named_mask, word_bot]
  · pointwise [headOut, k0_pay7, k0_pay6, k0_pay4, k0_pay3, k0_pay9, attend, soft, grown, masked, seenV, floorV, named_scale, named_mask, word_bot]

theorem word_eq : ∀ (t : Fin k0_t1_loop.trips) (i : Fin 128), IntOp.addi (BitVec.ofNat 32 i.val) (qWord t) = BitVec.ofNat 32 (128 * t.val + i.val) := by
  decide +kernel

theorem headOut_apply (own : Bool) (t : Fin k0_t1_loop.trips) (x : Vec Ideal S1x128x1024 .f32) (wq : Vec Ideal S1024x128 .f32) (k v : Vec Ideal S2048x1x128 .f32)
    (i d : Fin 128) :
    headOut own (qWord t) x wq k v (ix2 i d)
      = attend (fun j => seen (128 * t.val + i.val) j.val)
          (fun j => ∑ e : Fin 128, (∑ l : Fin 1024, x (ix3 0 i l) * wq (ix2 l e)) * k (ix3 j 0 e)) (fun j => v (ix3 j 0 d)) := by
  have ht : t.val < 16 := t.isLt.trans_eq (by decide)
  rw [headOut_mask, word_eq]
  congr 1
  funext j
  exact seenV_eq ⟨128 * t.val + i.val, by omega⟩ j

theorem outFirst_apply (ctx : Vec Ideal S128x256 .f32) (wo : Vec Ideal S256x1024 .f32) (i : Fin 128) (n : Fin 1024) :
    outFirst ctx wo (ix3 0 i n) = ∑ q : Fin 256, ctx (ix2 i q) * wo (ix2 q n) := by
  pointwise [outFirst, k0_pay216]

theorem outAcc_apply (own : Bool) (ctx : Vec Ideal S128x256 .f32) (wo : Vec Ideal S256x1024 .f32) (y : Vec Ideal S1x128x1024 .f32) (i : Fin 128) (n : Fin 1024) :
    outAcc own ctx wo y (ix3 0 i n) = y (ix3 0 i n) + ∑ q : Fin 256, ctx (ix2 i q) * wo (ix2 q n) := by
  cases own
  · pointwise [outAcc, k0_pay2]
  · pointwise [outAcc, k0_pay218]

/-- Head `h` of a pair's, at row `r` and column `d`: from the rows of `x`, the pair's 256 columns of the query weights
    (from column `256 o`), and the pair's keys and values. -/
def headAt (x : FVec Ideal S1x2048x1024 .f32) (wq : FVec Ideal S1024x1024 .f32) (k v : FVec Ideal S2048x2x128 .f32) (o : Fin 4)
    (r : Fin 2048) (h : Fin 2) (d : Fin 128) : EReal :=
  attend (fun j => seen r.val j.val)
    (fun j => ∑ e : Fin 128, (∑ l : Fin 1024, x (ix3 0 r l) * wq (ix2 l ⟨256 * o.val + 128 * h.val + e.val, by omega⟩)) * k (ix3 j h e))
    (fun j => v (ix3 j h d))

/-- What one stretch adds at row `r` and column `n`. -/
def addend (x : FVec Ideal S1x2048x1024 .f32) (wq wo : FVec Ideal S1024x1024 .f32) (k v : FVec Ideal S2048x2x128 .f32) (o : Fin 4)
    (r : Fin 2048) (n : Fin 1024) : EReal :=
  ∑ q : Fin 256, headAt x wq k v o r ⟨q.val / 128, by omega⟩ ⟨q.val % 128, Nat.mod_lt _ (by decide)⟩ * wo (ix2 ⟨256 * o.val + q.val, by omega⟩ n)

theorem emb_qR (t : Fin k0_t1_loop.trips) (i : Fin 128) (l : Fin 1024) (h : 128 * t.val + i.val < 2048) :
    (qR t).emb (ix3 0 i l) = ix3 (n0 := 1) 0 (⟨128 * t.val + i.val, h⟩ : Fin 2048) l := by
  funext q
  match q with
  | 0 => exact Fin.ext (by simp [Rect.emb, Rect.unit, ix3, k0_off2_eq])
  | 1 => exact Fin.ext (by simp [Rect.emb, Rect.unit, ix3, k0_off2_eq])
  | 2 => exact Fin.ext (by simp [Rect.emb, Rect.unit, ix3, k0_off2_eq])

theorem emb_colR0 (o : Fin 4) (l : Fin 1024) (e : Fin 128) : (colR0 o).emb (ix2 l e) = ix2 l (⟨256 * o.val + 128 * (0 : Fin 2).val + e.val, by omega⟩ : Fin 1024) := by
  funext q
  match q with
  | 0 => exact Fin.ext (by simp [Rect.emb, Rect.unit, ix2])
  | 1 => exact Fin.ext (by simp [Rect.emb, Rect.unit, ix2])

theorem emb_colR1 (o : Fin 4) (l : Fin 1024) (e : Fin 128) : (colR1 o).emb (ix2 l e) = ix2 l (⟨256 * o.val + 128 * (1 : Fin 2).val + e.val, by omega⟩ : Fin 1024) := by
  funext q
  match q with
  | 0 => exact Fin.ext (by simp [Rect.emb, Rect.unit, ix2])
  | 1 => exact Fin.ext (by simp [Rect.emb, Rect.unit, ix2])

theorem emb_rowR (o : Fin 4) (p : Fin 256) (n : Fin 1024) : (rowR o).emb (ix2 p n) = ix2 (⟨256 * o.val + p.val, by omega⟩ : Fin 1024) n := by
  funext q
  match q with
  | 0 => exact Fin.ext (by simp [Rect.emb, Rect.unit, ix2])
  | 1 => exact Fin.ext (by simp [Rect.emb, Rect.unit, ix2])

theorem emb_kvR0 (j : Fin 2048) (e : Fin 128) : kvR0.emb (ix3 j 0 e) = ix3 j (0 : Fin 2) e := by
  funext q
  match q with
  | 0 => exact Fin.ext (by simp [Rect.emb, Rect.unit, ix3])
  | 1 => exact Fin.ext (by simp [Rect.emb, Rect.unit, ix3])
  | 2 => exact Fin.ext (by simp [Rect.emb, Rect.unit, ix3])

theorem emb_kvR1 (j : Fin 2048) (e : Fin 128) : kvR1.emb (ix3 j 0 e) = ix3 j (1 : Fin 2) e := by
  funext q
  match q with
  | 0 => exact Fin.ext (by simp [Rect.emb, Rect.unit, ix3])
  | 1 => exact Fin.ext (by simp [Rect.emb, Rect.unit, ix3])
  | 2 => exact Fin.ext (by simp [Rect.emb, Rect.unit, ix3])

/-- The two heads a trip computes, side by side, at row `i` of chunk `t` and column `q` of the pair. -/
theorem pair_apply (own : Bool) (o : Fin 4) (x : FVec Ideal S1x2048x1024 .f32) (wq : FVec Ideal S1024x1024 .f32) (k v : FVec Ideal S2048x2x128 .f32)
    (t : Fin k0_t1_loop.trips) (i : Fin 128) (q : Fin 256) (r : Fin 2048) (hr : 128 * t.val + i.val = r.val) :
    pair (F := Ideal) (headOut own (qWord t) (fun j => x ((qR t).emb j)) (fun j => wq ((colR0 o).emb j)) (fun j => k (kvR0.emb j)) (fun j => v (kvR0.emb j)))
        (headOut own (qWord t) (fun j => x ((qR t).emb j)) (fun j => wq ((colR1 o).emb j)) (fun j => k (kvR1.emb j)) (fun j => v (kvR1.emb j)))
        (ix2 i q)
      = headAt x wq k v o r ⟨q.val / 128, by omega⟩ ⟨q.val % 128, Nat.mod_lt _ (by decide)⟩ := by
  have hlt : 128 * t.val + i.val < 2048 := hr ▸ r.isLt
  obtain rfl : r = ⟨128 * t.val + i.val, hlt⟩ := Fin.ext hr.symm
  unfold pair headAt
  split
  next h =>
    have h' : q.val < 128 := h
    have e0 : (⟨q.val / 128, by omega⟩ : Fin 2) = 0 := Fin.ext (Nat.div_eq_of_lt h')
    have e1 : (⟨q.val % 128, Nat.mod_lt _ (by decide)⟩ : Fin 128) = ⟨q.val, h'⟩ := Fin.ext (Nat.mod_eq_of_lt h')
    rw [e0, e1]
    refine (headOut_apply own t _ _ _ _ i ⟨q.val, h'⟩).trans ?_
    simp only [emb_qR _ _ _ hlt, emb_colR0, emb_kvR0]
  next h =>
    have h' : ¬ q.val < 128 := h
    have e0 : (⟨q.val / 128, by omega⟩ : Fin 2) = 1 := Fin.ext (by show q.val / 128 = 1; omega)
    have e1 : (⟨q.val % 128, Nat.mod_lt _ (by decide)⟩ : Fin 128) = ⟨q.val - 128, by omega⟩ := Fin.ext (by show q.val % 128 = q.val - 128; omega)
    rw [e0, e1]
    refine (headOut_apply own t _ _ _ _ i ⟨q.val - 128, by omega⟩).trans ?_
    simp only [emb_qR _ _ _ hlt, emb_colR1, emb_kvR1]

theorem locOf_ix (r : Fin 2048) (n : Fin 1024) : locOf (ix3 0 r n) = ix3 0 (⟨r.val % 128, Nat.mod_lt _ (by decide)⟩ : Fin 128) n := by
  funext q
  match q with
  | 0 => rfl
  | 1 => rfl
  | 2 => rfl

theorem stretch_apply (own first : Bool) (o : Fin 4) (x : FVec Ideal S1x2048x1024 .f32) (wq wo : FVec Ideal S1024x1024 .f32) (k v : FVec Ideal S2048x2x128 .f32)
    (Y : FVec Ideal S1x2048x1024 .f32) (r : Fin 2048) (n : Fin 1024) :
    stretch own first o x wq wo k v Y (ix3 0 r n)
      = (match first with | true => 0 | false => Y (ix3 0 r n)) + addend x wq wo k v o r n := by
  have hr : 128 * (chunkOf (ix3 0 r n)).val + (⟨r.val % 128, Nat.mod_lt _ (by decide)⟩ : Fin 128).val = r.val := by
    show 128 * (r.val / 128) + r.val % 128 = r.val
    omega
  have hs : (∑ q : Fin 256, pair (F := Ideal) (headOut own (qWord (chunkOf (ix3 0 r n))) (fun j => x ((qR (chunkOf (ix3 0 r n))).emb j)) (fun j => wq ((colR0 o).emb j)) (fun j => k (kvR0.emb j)) (fun j => v (kvR0.emb j)))
        (headOut own (qWord (chunkOf (ix3 0 r n))) (fun j => x ((qR (chunkOf (ix3 0 r n))).emb j)) (fun j => wq ((colR1 o).emb j)) (fun j => k (kvR1.emb j)) (fun j => v (kvR1.emb j)))
        (ix2 (⟨r.val % 128, Nat.mod_lt _ (by decide)⟩ : Fin 128) q) * (fun j => wo ((rowR o).emb j)) (ix2 q n)) = addend x wq wo k v o r n := by
    unfold addend
    refine Finset.sum_congr rfl fun q _ => ?_
    rw [pair_apply own o x wq k v _ _ q r hr]
    exact congrArg (fun i => _ * wo i) (emb_rowR o q n)
  unfold stretch chunk
  rw [locOf_ix]
  cases first
  · refine (outAcc_apply own _ _ _ _ n).trans ?_
    rw [hs, ← locOf_ix, emb_locOf]
  · refine (outFirst_apply _ _ _ n).trans ?_
    rw [hs, zero_add]

end Cert.KernelIdeal.Ring
end
-- ==== Proof.Total.lean ====
/-
# The kernel's output over the whole arrays

What each device's output holds after its sixteen stretches, with the arrays read through the blocks the devices hold:
the sum, in ring order, of the columns' shares (`outAt_apply`), and that sum regrouped (`outAt_sum`).
-/
module

public import proofs.«01_k».proof.Proof.Entry
public import proofs.«01_k».proof.Proof.Kept

@[expose] public section

set_option maxRecDepth 16384

noncomputable section

namespace Cert.KernelIdeal.Ring

open Cert.KernelIdeal Cert.KernelIdeal.Gen Cert.Heads
open Idealize.ShloMosaic Idealize.ShloMosaic.TcCoe
open Idealize.SL Idealize.SL.Sem

section

variable {F : FTy → Type} [FloatOps F] [Named F]
variable (m : (ℓ : Loc nD τ sig) → Buf (Elt F) ℓ) (ρ : Dev nD → PrngReg)

/-- The windows bring in the arrays as they are. -/
theorem read_x (c : Dev nD) : xC m ρ c = m ((c : Thread nD τ).loc main_arg0) := by
  funext i
  show m ((c : Thread nD τ).loc main_arg0) ((win0_0.rect (0 : Fin 1)).emb i) = _
  congr 1
  funext q
  refine Fin.ext ?_
  show 0 * S1x2048x1024.size q + 1 * (i q).val = (i q).val
  omega

theorem read_wq (c : Dev nD) : wC m ρ 0 c = m ((c : Thread nD τ).loc main_arg1) := by
  funext i
  show m ((c : Thread nD τ).loc main_arg1) ((win0_1.rect (0 : Fin 1)).emb i) = _
  congr 1
  funext q
  refine Fin.ext ?_
  show 0 * S1024x1024.size q + 1 * (i q).val = (i q).val
  omega

theorem read_wo (c : Dev nD) : wC m ρ 1 c = m ((c : Thread nD τ).loc main_arg4) := by
  funext i
  show m ((c : Thread nD τ).loc main_arg4) ((win0_2.rect (0 : Fin 1)).emb i) = _
  congr 1
  funext q
  refine Fin.ext ?_
  show 0 * S1024x1024.size q + 1 * (i q).val = (i q).val
  omega

/-- The output array ends at what the body computes. -/
theorem final_out (c : Dev nD) : finalA m ρ c (3 : Fin 4) = outAt m ρ c := by
  have hr : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  rw [← hr]
  funext i
  show _ = finalA m ρ c (3 : Fin 4) ((win0_3.rect (0 : Fin 1)).emb i)
  congr 1
  funext q
  refine Fin.ext ?_
  show (i q).val = 0 * S1x2048x1024.size q + 1 * (i q).val
  omega

theorem unit_row (j : Fin 2048) (h : Fin 2) (e : Fin 128) (hn : S2048x2x128.numel = S1x2048x2x128.numel) :
    Shape.reshapeEquiv hn (ix3 j h e) = ix4 (n0 := 1) 0 j h e := by
  pointwise

theorem kvC_apply (c : Dev nD) (g o : Fin 4) (f : S4x2048x32x128.Idx → F .f32) (j : Fin 2048) (h : Fin 2) (e : Fin 128) :
    f ((Rect.unit (s := S4x2048x32x128) (kvOff c g o) S1x2048x2x128.size (kvOff_inb c g o)).emb (ix4 (n0 := 1) 0 j h e))
      = f (ix4 c j (⟨8 * ((c.val + 4 - g.val) % 4) + 2 * o.val + h.val, by omega⟩ : Fin 32) e) := by
  congr 1
  funext q
  refine Fin.ext ?_
  match q with
  | 0 => simp [Rect.emb, Rect.unit, ix4, kvOff_eq]
  | 1 => simp [Rect.emb, Rect.unit, ix4, kvOff_eq]
  | 2 => simp [Rect.emb, Rect.unit, ix4, kvOff_eq]
  | 3 => simp [Rect.emb, Rect.unit, ix4, kvOff_eq]

theorem kvC_k (c : Dev nD) (g o : Fin 4) (f : Buf (Elt F) (kH.view.loc (c : Thread nD τ))) (j : Fin 2048) (h : Fin 2) (e : Fin 128) :
    kvC (F := F) kH c g o f (ix3 j h e) = f (ix4 c j (⟨8 * (blockAt c g).val + 2 * o.val + h.val, by have := (blockAt c g).isLt; omega⟩ : Fin 32) e) := by
  refine Eq.trans ?_ (kvC_apply c g o f j h e)
  show f ((Rect.unit (s := S4x2048x32x128) (kvOff c g o) S1x2048x2x128.size (kvOff_inb c g o)).emb (Shape.reshapeEquiv _ (ix3 j h e))) = _
  rw [unit_row]

theorem kvC_v (c : Dev nD) (g o : Fin 4) (f : Buf (Elt F) (vH.view.loc (c : Thread nD τ))) (j : Fin 2048) (h : Fin 2) (e : Fin 128) :
    kvC (F := F) vH c g o f (ix3 j h e) = f (ix4 c j (⟨8 * (blockAt c g).val + 2 * o.val + h.val, by have := (blockAt c g).isLt; omega⟩ : Fin 32) e) := by
  refine Eq.trans ?_ (kvC_apply c g o f j h e)
  show f ((Rect.unit (s := S4x2048x32x128) (kvOff c g o) S1x2048x2x128.size (kvOff_inb c g o)).emb (Shape.reshapeEquiv _ (ix3 j h e))) = _
  rw [unit_row]

theorem back_eq : ∀ (g : Fin 4) (c : Dev nD), back g.val c = blockAt c g := by decide

end

/-! ## Over the extended reals -/

/-- A device's blocks of the whole arrays, at an index. -/
theorem block_x (X : (⟨3, ![4, 2048, 1024]⟩ : Shape).Idx → EReal) (c : Fin 4) (r : Fin 2048) (l : Fin 1024) :
    Layout.block ⟨3, ![1, 2048, 1024]⟩ ⟨3, ![4, 2048, 1024]⟩ 0 4 c X (by decide) (ix3 0 r l) = X (ix3 c r l) := by
  refine congrArg X (funext fun q => Fin.ext ?_)
  match q with
  | 0 => exact Nat.mul_one _
  | 1 => rfl
  | 2 => rfl

theorem block_wq (W : (⟨2, ![1024, 4096]⟩ : Shape).Idx → EReal) (c : Fin 4) (l p : Fin 1024) :
    Layout.block ⟨2, ![1024, 1024]⟩ ⟨2, ![1024, 4096]⟩ 1 4 c W (by decide) (ix2 l p) = W (ix2 l (⟨1024 * c.val + p.val, by omega⟩ : Fin 4096)) := by
  refine congrArg W (funext fun q => Fin.ext ?_)
  match q with
  | 0 => rfl
  | 1 => exact congrArg (· + p.val) (Nat.mul_comm _ _)

theorem block_wo (W : (⟨2, ![4096, 1024]⟩ : Shape).Idx → EReal) (c : Fin 4) (p n : Fin 1024) :
    Layout.block ⟨2, ![1024, 1024]⟩ ⟨2, ![4096, 1024]⟩ 0 4 c W (by decide) (ix2 p n) = W (ix2 (⟨1024 * c.val + p.val, by omega⟩ : Fin 4096) n) := by
  refine congrArg W (funext fun q => Fin.ext ?_)
  match q with
  | 0 => exact congrArg (· + p.val) (Nat.mul_comm _ _)
  | 1 => rfl

/-- A head of a stretch, where its arrays are read from the whole ones: block `b` of the weights, pair `o` of its heads. -/
theorem headAt_eq (X : (⟨3, ![4, 2048, 1024]⟩ : Shape).Idx → EReal) (Wq : (⟨2, ![1024, 4096]⟩ : Shape).Idx → EReal) (K V : (⟨4, ![4, 2048, 32, 128]⟩ : Shape).Idx → EReal)
    (x : FVec Ideal S1x2048x1024 .f32) (wq : FVec Ideal S1024x1024 .f32) (k v : FVec Ideal S2048x2x128 .f32) (c b o : Fin 4)
    (hx : ∀ (r : Fin 2048) (l : Fin 1024), x (ix3 0 r l) = X (ix3 c r l))
    (hq : ∀ l p : Fin 1024, wq (ix2 l p) = Wq (ix2 l (⟨1024 * b.val + p.val, by omega⟩ : Fin 4096)))
    (hk : ∀ (j : Fin 2048) (h : Fin 2) (e : Fin 128), k (ix3 j h e) = K (ix4 c j (⟨8 * b.val + 2 * o.val + h.val, by omega⟩ : Fin 32) e))
    (hv : ∀ (j : Fin 2048) (h : Fin 2) (e : Fin 128), v (ix3 j h e) = V (ix4 c j (⟨8 * b.val + 2 * o.val + h.val, by omega⟩ : Fin 32) e))
    (r : Fin 2048) (h : Fin 2) (d d' : Fin 128) (h' : Fin 32) (eh : 8 * b.val + 2 * o.val + h.val = h'.val) (ed : d = d') :
    headAt x wq k v o r h d = headOf X Wq K V c r h' d' := by
  subst ed
  have hlt : 8 * b.val + 2 * o.val + h.val < 32 := eh ▸ h'.isLt
  obtain rfl : h' = ⟨8 * b.val + 2 * o.val + h.val, hlt⟩ := Fin.ext eh.symm
  unfold headAt headOf
  refine congrArg₂ (attend fun j => seen r.val j.val) (funext fun j => Finset.sum_congr rfl fun e _ => congrArg₂ (· * ·) (Finset.sum_congr rfl fun l _ => congrArg₂ (· * ·) (hx r l) ?_) (hk j h e)) (funext fun j => hv j h d)
  refine (hq l _).trans (congrArg (fun p => Wq (ix2 l p)) (Fin.ext ?_))
  show 1024 * b.val + (256 * o.val + 128 * h.val + e.val) = (8 * b.val + 2 * o.val + h.val) * 128 + e.val
  omega

theorem addend_eq (X : (⟨3, ![4, 2048, 1024]⟩ : Shape).Idx → EReal) (Wq : (⟨2, ![1024, 4096]⟩ : Shape).Idx → EReal) (K V : (⟨4, ![4, 2048, 32, 128]⟩ : Shape).Idx → EReal)
    (Wo : (⟨2, ![4096, 1024]⟩ : Shape).Idx → EReal)
    (x : FVec Ideal S1x2048x1024 .f32) (wq wo : FVec Ideal S1024x1024 .f32) (k v : FVec Ideal S2048x2x128 .f32) (c b o : Fin 4)
    (hx : ∀ (r : Fin 2048) (l : Fin 1024), x (ix3 0 r l) = X (ix3 c r l))
    (hq : ∀ l p : Fin 1024, wq (ix2 l p) = Wq (ix2 l (⟨1024 * b.val + p.val, by omega⟩ : Fin 4096)))
    (ho : ∀ p n : Fin 1024, wo (ix2 p n) = Wo (ix2 (⟨1024 * b.val + p.val, by omega⟩ : Fin 4096) n))
    (hk : ∀ (j : Fin 2048) (h : Fin 2) (e : Fin 128), k (ix3 j h e) = K (ix4 c j (⟨8 * b.val + 2 * o.val + h.val, by omega⟩ : Fin 32) e))
    (hv : ∀ (j : Fin 2048) (h : Fin 2) (e : Fin 128), v (ix3 j h e) = V (ix4 c j (⟨8 * b.val + 2 * o.val + h.val, by omega⟩ : Fin 32) e))
    (r : Fin 2048) (n : Fin 1024) :
    addend x wq wo k v o r n = ∑ q : Fin 256, share X Wq K V Wo c r n ⟨1024 * b.val + 256 * o.val + q.val, by omega⟩ := by
  unfold addend
  refine Finset.sum_congr rfl fun q _ => congrArg₂ (· * ·) ?_ ?_
  · refine headAt_eq X Wq K V x wq k v c b o hx hq hk hv r _ _ _ _ ?_ (Fin.ext ?_)
    · show 8 * b.val + 2 * o.val + q.val / 128 = (1024 * b.val + 256 * o.val + q.val) / 128
      omega
    · show q.val % 128 = (1024 * b.val + 256 * o.val + q.val) % 128
      omega
  · refine (ho _ n).trans (congrArg (fun p => Wo (ix2 p n)) (Fin.ext ?_))
    show 1024 * b.val + (256 * o.val + q.val) = 1024 * b.val + 256 * o.val + q.val
    omega

/-- One step's four stretches. -/
theorem afterStep_apply (c : Dev nD) (own first : Bool) (g : Fin 4) (x : FVec Ideal S1x2048x1024 .f32) (wq wo : FVec Ideal S1024x1024 .f32)
    (fK : Buf (Elt Ideal) (kH.view.loc (c : Thread nD τ))) (fV : Buf (Elt Ideal) (vH.view.loc (c : Thread nD τ))) (Y : FVec Ideal S1x2048x1024 .f32) (r : Fin 2048) (n : Fin 1024) :
    afterStep c own first g x wq wo fK fV Y (ix3 0 r n)
      = (match first with | true => 0 | false => Y (ix3 0 r n)) + ∑ o : Fin 4, addend x wq wo (kvC kH c g o fK) (kvC vH c g o fV) o r n := by
  unfold afterStep afterHalf
  rw [stretch_apply, stretch_apply, stretch_apply, stretch_apply, Fin.sum_univ_four]
  cases first <;> simp only [add_assoc]

variable (m : (ℓ : Loc nD τ sig) → Buf (Elt Ideal) ℓ) (ρ : Dev nD → PrngReg)

theorem outAt_apply (c : Dev nD) (r : Fin 2048) (n : Fin 1024) :
    outAt m ρ c (ix3 0 r n) = ∑ g : Fin 4, ∑ o : Fin 4, addend (xC m ρ c) (wC m ρ 0 (back g.val c)) (wC m ρ 1 (back g.val c)) (kvC kH c g o (fK m ρ c)) (kvC vH c g o (fV m ρ c)) o r n := by
  unfold outAt outFrom stepOut
  rw [afterStep_apply, afterStep_apply, afterStep_apply, afterStep_apply]
  refine Eq.trans ?_ (Fin.sum_univ_four _).symm
  simp only [zero_add]

/-- From blocks of the whole arrays, device `c` ends with batch `c` of the output. -/
theorem outAt_sum (X : (⟨3, ![4, 2048, 1024]⟩ : Shape).Idx → EReal) (Wq : (⟨2, ![1024, 4096]⟩ : Shape).Idx → EReal) (K V : (⟨4, ![4, 2048, 32, 128]⟩ : Shape).Idx → EReal)
    (Wo : (⟨2, ![4096, 1024]⟩ : Shape).Idx → EReal)
    (hx : ∀ (c : Dev nD) (r : Fin 2048) (l : Fin 1024), (m ((c : Thread nD τ).loc main_arg0) : FVec Ideal S1x2048x1024 .f32) (ix3 0 r l) = X (ix3 c r l))
    (hq : ∀ (c : Dev nD) (l p : Fin 1024), (m ((c : Thread nD τ).loc main_arg1) : FVec Ideal S1024x1024 .f32) (ix2 l p) = Wq (ix2 l (⟨1024 * c.val + p.val, by have h : c.val < 4 := c.isLt; omega⟩ : Fin 4096)))
    (hk : ∀ (c : Dev nD) (i : S4x2048x32x128.Idx), (m ((c : Thread nD τ).loc main_arg2) : FVec Ideal S4x2048x32x128 .f32) i = K i)
    (hv : ∀ (c : Dev nD) (i : S4x2048x32x128.Idx), (m ((c : Thread nD τ).loc main_arg3) : FVec Ideal S4x2048x32x128 .f32) i = V i)
    (ho : ∀ (c : Dev nD) (p n : Fin 1024), (m ((c : Thread nD τ).loc main_arg4) : FVec Ideal S1024x1024 .f32) (ix2 p n) = Wo (ix2 (⟨1024 * c.val + p.val, by have h : c.val < 4 := c.isLt; omega⟩ : Fin 4096) n))
    (c : Dev nD) (r : Fin 2048) (n : Fin 1024) :
    outAt m ρ c (ix3 0 r n) = ∑ p : Fin 4096, share X Wq K V Wo c r n p := by
  refine (outAt_apply m ρ c r n).trans (Eq.trans ?_ ((sum_ring c (fun b => ∑ o : Fin 4, ∑ q : Fin 256,
    share X Wq K V Wo c r n ⟨1024 * b.val + 256 * o.val + q.val, by omega⟩)).trans (sum_columns (share X Wq K V Wo c r n)).symm))
  refine Finset.sum_congr rfl fun g _ => Finset.sum_congr rfl fun o _ => ?_
  refine addend_eq X Wq K V Wo _ _ _ _ _ c (blockAt c g) o ?_ ?_ ?_ ?_ ?_ r n
  · intro r l
    rw [read_x]
    exact hx c r l
  · intro l p
    rw [read_wq, back_eq]
    exact hq _ l p
  · intro p n
    rw [read_wo, back_eq]
    exact ho _ p n
  · intro j h e
    exact (kvC_k c g o _ j h e).trans (hk c _)
  · intro j h e
    exact (kvC_v c g o _ j h e).trans (hv c _)

end Cert.KernelIdeal.Ring
end
-- ==== Proof.Plain.lean ====
/-
# The reference at an index

The reference's composed term, cut into the stages of its text (the block numbers, the mask, the scores, their
exponentials, the weights, the output), and each stage read at an index over the extended reals. The result
(`out_apply`): the sum over the 4096 columns of the heads of a head's attention output times the output weight.
-/
module

public import proofs.«01_k».proof.Proof.Gen.ReferenceIdeal.Run
public import proofs.«01_k».proof.Proof.Spec

@[expose] public section

set_option maxRecDepth 16384

noncomputable section

namespace Cert.ReferenceIdeal.Plain

open Cert.ReferenceIdeal Cert.ReferenceIdeal.Gen Cert.Heads
open Idealize.ShloMosaic Idealize.ShloMosaic.TcCoe
open Idealize.SL.Sem

variable {F : FTy → Type} [FloatOps F]

/-! ## The stages -/

/-- The block number of a position. -/
def blks : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

/-- The block numbers down the rows and along the columns. -/
def rowBlk : IVec S2048x2048 32 := broadcastInDim S2048x2048 ![0, 1] bcast_S2048x1_S2048x2048_0_1 (broadcastInDim S2048x1 ![0] bcast_S2048_S2048x1_0 blks)
def colBlk : IVec S1x2048 32 := broadcastInDim S1x2048 ![1] bcast_S2048_S1x2048_1 blks

/-- The divisor 3, guarded against zero. -/
def three : IVec S_ 32 := select (cmpi .eq (id (constantI S_ 32 3#32)) (constantI S_ 32 0#32)) (constantI S_ 32 1#32) (id (constantI S_ 32 3#32))

/-- The remainder by 3 of two block numbers' sum, of the divisor's sign. -/
def rem3 : IVec S2048x2048 32 := Host.remsi (addi rowBlk (broadcastInDim S2048x2048 ![0, 1] bcast_S1x2048_S2048x2048_0_1 colBlk)) (broadcastInDim S2048x2048 ![] bcast_S_S2048x2048 three)
def mod3 : IVec S2048x2048 32 :=
  select (andi (cmpi .ne (cmpi .slt rem3 (broadcastInDim S2048x2048 ![] bcast_S_S2048x2048 (constantI S_ 32 0#32))) (broadcastInDim S2048x2048 ![] bcast_S_S2048x2048 (cmpi .slt three (constantI S_ 32 0#32))))
      (cmpi .ne rem3 (broadcastInDim S2048x2048 ![] bcast_S_S2048x2048 (constantI S_ 32 0#32))))
    (addi rem3 (broadcastInDim S2048x2048 ![] bcast_S_S2048x2048 three)) rem3

def mask : IVec S2048x2048 1 :=
  ori (ori (cmpi .eq rowBlk (broadcastInDim S2048x2048 ![0, 1] bcast_S1x2048_S2048x2048_0_1 colBlk))
      (broadcastInDim S2048x2048 ![0, 1] bcast_S1x2048_S2048x2048_0_1 (cmpi .eq colBlk (broadcastInDim S1x2048 ![] bcast_S_S1x2048 (constantI S_ 32 0#32)))))
    (cmpi .eq mod3 (broadcastInDim S2048x2048 ![] bcast_S_S2048x2048 (constantI S_ 32 0#32)))

/-- The masked scores. -/
def scores (X : FVec F S4x2048x1024 .f32) (Wq : FVec F S1024x4096 .f32) (K : FVec F S4x2048x32x128 .f32) : FVec F S4x32x2048x2048 .f32 :=
  select (broadcastInDim S4x32x2048x2048 ![0, 1, 2, 3] bcast_S1x1x2048x2048_S4x32x2048x2048_0_1_2_3 (broadcastInDim S1x1x2048x2048 ![2, 3] bcast_S2048x2048_S1x1x2048x2048_2_3 mask))
    (Host.divf (Host.dotGeneral dot_S4x2048x32x128_S4x2048x32x128_S4x32x2048x2048_3_3_1_1_02_02 none
        (shapeCast S4x2048x32x128 (Host.dotGeneral dot_S4x2048x1024_S1024x4096_S4x2048x4096_2_0_01_1_n_n none X Wq) shapeCasts_S4x2048x4096_S4x2048x32x128) K)
      (broadcastInDim S4x32x2048x2048 ![] bcast_S_S4x32x2048x2048 (Host.sqrt (constant S_ .f32 0x43000000#32))))
    (broadcastInDim S4x32x2048x2048 ![] bcast_S_S4x32x2048x2048 (id (constant S_ .f32 0xFF800000#32)))

/-- Their exponentials, each row's greatest taken off. -/
def exps (z : FVec F S4x32x2048x2048 .f32) : FVec F S4x32x2048x2048 .f32 :=
  Host.exp (subf z (broadcastInDim S4x32x2048x2048 ![0, 1, 2, 3] bcast_S4x32x2048x1_S4x32x2048x2048_0_1_2_3
    (broadcastInDim S4x32x2048x1 ![0, 1, 2] bcast_S4x32x2048_S4x32x2048x1_0_1_2
      (Host.reduce FloatOps.maximumf z (constant S_ .f32 0xFF800000#32) reducesTo_S4x32x2048x2048_S4x32x2048_d3 h_S_))))

/-- Whether a row sees any key. -/
def keep : IVec S2048 1 := Host.reduce IntOp.ori mask (constantI S_ 1 0#1) reducesTo_S2048x2048_S2048_d1 h_S_
def keep4 : IVec S1x1x2048x1 1 := broadcastInDim S1x1x2048x1 ![2] bcast_S2048_S1x1x2048x1_2 keep

/-- The weights' divisors, and the weights. -/
def sums (x : FVec F S4x32x2048x2048 .f32) : FVec F S4x32x2048x1 .f32 :=
  broadcastInDim S4x32x2048x1 ![0, 1, 2] bcast_S4x32x2048_S4x32x2048x1_0_1_2 (Host.reduceAdd x (constant S_ .f32 0x00000000#32) reducesTo_S4x32x2048x2048_S4x32x2048_d3 h_S_)
def divisors (k : IVec S1x1x2048x1 1) (s : FVec F S4x32x2048x1 .f32) : FVec F S4x32x2048x1 .f32 :=
  select (broadcastInDim S4x32x2048x1 ![0, 1, 2, 3] bcast_S1x1x2048x1_S4x32x2048x1_0_1_2_3 k) s
    (broadcastInDim S4x32x2048x1 ![] bcast_S_S4x32x2048x1 (id (constant S_ .f32 0x3F800000#32)))
def quotients (k : IVec S1x1x2048x1 1) (x : FVec F S4x32x2048x2048 .f32) (s : FVec F S4x32x2048x1 .f32) : FVec F S4x32x2048x2048 .f32 :=
  select (broadcastInDim S4x32x2048x2048 ![0, 1, 2, 3] bcast_S1x1x2048x1_S4x32x2048x2048_0_1_2_3 k)
    (Host.divf x (broadcastInDim S4x32x2048x2048 ![0, 1, 2, 3] bcast_S4x32x2048x1_S4x32x2048x2048_0_1_2_3 s))
    (broadcastInDim S4x32x2048x2048 ![] bcast_S_S4x32x2048x2048 (id (constant S_ .f32 0x00000000#32)))
def weights (x : FVec F S4x32x2048x2048 .f32) : FVec F S4x32x2048x2048 .f32 := quotients keep4 x (divisors keep4 (sums x))

/-- The output. -/
def out (w : FVec F S4x32x2048x2048 .f32) (V : FVec F S4x2048x32x128 .f32) (Wo : FVec F S4096x1024 .f32) : FVec F S4x2048x1024 .f32 :=
  Host.dotGeneral dot_S4x2048x4096_S4096x1024_S4x2048x1024_2_0_01_1_n_n none
    (shapeCast S4x2048x4096 (transpose S4x2048x32x128 [0, 3, 1, 2] (Host.dotGeneral dot_S4x2048x32x128_S4x32x2048x2048_S4x32x128x2048_1_3_3_2_02_01 none V w)
      transposes_S4x32x128x2048_S4x2048x32x128_0_3_1_2) shapeCasts_S4x2048x32x128_S4x2048x4096) Wo

theorem res_eq (m : (ℓ : Loc nD τ sig) → Buf (Elt F) ℓ) (c : Dev nD) : Value.res_out0 m c
    = out (weights (exps (scores (m ((c.tc : Thread nD τ).loc main_arg0)) (m ((c.tc : Thread nD τ).loc main_arg1)) (m ((c.tc : Thread nD τ).loc main_arg2)))))
        (m ((c.tc : Thread nD τ).loc main_arg3)) (m ((c.tc : Thread nD τ).loc main_arg4)) := by
  unfold Value.res_out0 Value.res_main_v45
  rfl

/-! ## The stages at an index -/

/-- Rounding towards minus infinity of a word's quotient by 64, as the text prints it. -/
def floorH (n : BitVec 32) : BitVec 32 :=
  Scalar.select (IntOp.andi
      (IntOp.cmpi .ne (if n = 0 then 0 else if n.msb = true then -1 else 1 : BitVec 32) (if (64#32) = 0 then 0 else if (64#32).msb = true then -1 else 1 : BitVec 32))
      (IntOp.cmpi .ne (IntOp.remsi .host n 64#32) 0#32))
    (IntOp.subi (IntOp.divsi .host n 64#32) 1#32) (IntOp.divsi .host n 64#32)

theorem floorH_ofNat : ∀ n : Fin 2048, floorH (BitVec.ofNat 32 n.val) = BitVec.ofNat 32 (n.val / 64) := by decide +kernel

/-- The remainder by 3, likewise. -/
def modH (x : BitVec 32) : BitVec 32 :=
  Scalar.select (IntOp.andi
      (IntOp.cmpi .ne (IntOp.cmpi .slt (IntOp.remsi .host x (Scalar.select (IntOp.cmpi .eq 3#32 0#32) 1#32 3#32)) 0#32)
        (IntOp.cmpi .slt (Scalar.select (IntOp.cmpi .eq 3#32 0#32) 1#32 3#32) 0#32))
      (IntOp.cmpi .ne (IntOp.remsi .host x (Scalar.select (IntOp.cmpi .eq 3#32 0#32) 1#32 3#32)) 0#32))
    (IntOp.addi (IntOp.remsi .host x (Scalar.select (IntOp.cmpi .eq 3#32 0#32) 1#32 3#32)) (Scalar.select (IntOp.cmpi .eq 3#32 0#32) 1#32 3#32))
    (IntOp.remsi .host x (Scalar.select (IntOp.cmpi .eq 3#32 0#32) 1#32 3#32))

theorem seenH_ofNat : ∀ a b : Fin 32, IntOp.ori (IntOp.ori (IntOp.cmpi .eq (BitVec.ofNat 32 a.val) (BitVec.ofNat 32 b.val)) (IntOp.cmpi .eq (BitVec.ofNat 32 b.val) 0#32))
      (IntOp.cmpi .eq (modH (IntOp.addi (BitVec.ofNat 32 a.val) (BitVec.ofNat 32 b.val))) 0#32)
    = BitVec.ofBool (decide (a.val = b.val ∨ b.val = 0 ∨ (a.val + b.val) % 3 = 0)) := by decide +kernel

theorem blks_word (j : Fin 2048) : blks (ix1 j) = floorH (BitVec.ofNat 32 j.val) := by
  pointwise [blks, floorH, id_eq]

theorem blks_apply (j : Fin 2048) : blks (ix1 j) = BitVec.ofNat 32 (j.val / 64) := (blks_word j).trans (floorH_ofNat j)

theorem mod3_apply (r j : Fin 2048) : mod3 (ix2 r j) = modH (IntOp.addi (BitVec.ofNat 32 (r.val / 64)) (BitVec.ofNat 32 (j.val / 64))) := by
  pointwise [mod3, rem3, three, rowBlk, colBlk, blks_apply, modH, id_eq]

theorem mask_apply (r j : Fin 2048) : mask (ix2 r j) = seen r.val j.val := by
  refine Eq.trans ?_ (seenH_ofNat ⟨r.val / 64, by omega⟩ ⟨j.val / 64, by omega⟩)
  pointwise [mask, rowBlk, colBlk, blks_apply, mod3_apply]

/-- A disjunction with a true member is true. -/
theorem fold_ori {n : ℕ} (f : Fin n → BitVec 1) (k : Fin n) (hk : f k = 1#1) : Finset.fold IntOp.ori (0#1) f Finset.univ = 1#1 := by
  have h1 : ∀ x : BitVec 1, IntOp.ori (1#1) x = 1#1 := by decide
  rw [← Finset.insert_erase (Finset.mem_univ k), Finset.fold_insert (Finset.notMem_erase k _), hk, h1]

theorem keep_apply (r : Fin 2048) : keep (ix1 r) = 1#1 := by
  have h : keep (ix1 r) = Finset.fold IntOp.ori (0#1) (fun j : Fin 2048 => seen r.val j.val) Finset.univ := by
    pointwise [keep, mask_apply]
  exact h.trans (fold_ori (n := 2048) (fun j => seen r.val j.val) 0 (seen_zero r.val))

theorem scores_apply (X : FVec Ideal S4x2048x1024 .f32) (Wq : FVec Ideal S1024x4096 .f32) (K : FVec Ideal S4x2048x32x128 .f32) (b : Fin 4) (h : Fin 32) (r j : Fin 2048) :
    scores X Wq K (ix4 b h r j)
      = masked (fun j => seen r.val j.val)
          (fun j => ∑ e : Fin 128, (∑ l : Fin 1024, X (ix3 b r l) * Wq (ix2 l ⟨h.val * 128 + e.val, by omega⟩)) * K (ix4 b j h e)) j := by
  pointwise [scores, mask_apply, masked, id_eq, div_root, word_bot]

theorem exps_apply (z : FVec Ideal S4x32x2048x2048 .f32) (b : Fin 4) (h : Fin 32) (r j : Fin 2048) :
    exps z (ix4 b h r j) = grown (fun k => z (ix4 b h r k)) j := by
  pointwise [exps, grown, word_bot]

theorem keep4_apply (r : Fin 2048) : keep4 (ix4 (0 : Fin 1) (0 : Fin 1) r (0 : Fin 1)) = 1#1 := by
  pointwise [keep4, keep_apply]

theorem sums_apply (x : FVec Ideal S4x32x2048x2048 .f32) (b : Fin 4) (h : Fin 32) (r : Fin 2048) :
    sums x (ix4 b h r (0 : Fin 1)) = ∑ k : Fin 2048, x (ix4 b h r k) := by
  pointwise [sums]

theorem divisors_apply (k : IVec S1x1x2048x1 1) (s : FVec Ideal S4x32x2048x1 .f32) (b : Fin 4) (h : Fin 32) (r : Fin 2048) :
    divisors k s (ix4 b h r (0 : Fin 1)) = Scalar.select (k (ix4 (0 : Fin 1) (0 : Fin 1) r (0 : Fin 1))) (s (ix4 b h r (0 : Fin 1))) (Ideal.ofBits .f32 0x3F800000#32) := by
  pointwise [divisors, id_eq]

theorem quotients_apply (k : IVec S1x1x2048x1 1) (x : FVec Ideal S4x32x2048x2048 .f32) (s : FVec Ideal S4x32x2048x1 .f32) (b : Fin 4) (h : Fin 32) (r j : Fin 2048) :
    quotients k x s (ix4 b h r j)
      = Scalar.select (k (ix4 (0 : Fin 1) (0 : Fin 1) r (0 : Fin 1))) (Ideal.div (x (ix4 b h r j)) (s (ix4 b h r (0 : Fin 1)))) (Ideal.ofBits .f32 0x00000000#32) := by
  pointwise [quotients, id_eq]

theorem select_true (x y : EReal) : Scalar.select 1#1 x y = x := rfl

theorem weights_apply (x : FVec Ideal S4x32x2048x2048 .f32) (b : Fin 4) (h : Fin 32) (r j : Fin 2048) :
    weights x (ix4 b h r j) = Ideal.div (x (ix4 b h r j)) (∑ k : Fin 2048, x (ix4 b h r k)) := by
  unfold weights
  rw [quotients_apply, divisors_apply, sums_apply, keep4_apply, select_true, select_true]

theorem out_sum (w : FVec Ideal S4x32x2048x2048 .f32) (V : FVec Ideal S4x2048x32x128 .f32) (Wo : FVec Ideal S4096x1024 .f32) (b : Fin 4) (r : Fin 2048) (n : Fin 1024) :
    out w V Wo (ix3 b r n) = ∑ p : Fin 4096, (∑ j : Fin 2048, V (ix4 b j (⟨p.val / 128, by omega⟩ : Fin 32) (⟨p.val % 128, Nat.mod_lt _ (by decide)⟩ : Fin 128))
      * w (ix4 b (⟨p.val / 128, by omega⟩ : Fin 32) r j)) * Wo (ix2 p n) := by
  pointwise [out]

theorem soft_apply (X : FVec Ideal S4x2048x1024 .f32) (Wq : FVec Ideal S1024x4096 .f32) (K : FVec Ideal S4x2048x32x128 .f32) (b : Fin 4) (h : Fin 32) (r j : Fin 2048) :
    weights (exps (scores X Wq K)) (ix4 b h r j)
      = soft (masked (fun j => seen r.val j.val)
          (fun j => ∑ e : Fin 128, (∑ l : Fin 1024, X (ix3 b r l) * Wq (ix2 l ⟨h.val * 128 + e.val, by omega⟩)) * K (ix4 b j h e))) j := by
  rw [weights_apply]
  simp only [exps_apply, scores_apply]
  rfl

/-- The reference's output. -/
theorem out_apply (X : FVec Ideal S4x2048x1024 .f32) (Wq : FVec Ideal S1024x4096 .f32) (K V : FVec Ideal S4x2048x32x128 .f32) (Wo : FVec Ideal S4096x1024 .f32)
    (b : Fin 4) (r : Fin 2048) (n : Fin 1024) :
    out (weights (exps (scores X Wq K))) V Wo (ix3 b r n) = ∑ p : Fin 4096, share X Wq K V Wo b r n p := by
  rw [out_sum]
  unfold share headOf attend
  refine Finset.sum_congr rfl fun p _ => congrArg (· * Wo (ix2 p n)) (Finset.sum_congr rfl fun j _ => ?_)
  rw [soft_apply, mul_comm]

end Cert.ReferenceIdeal.Plain
end
-- ==== Proof.Match.lean ====
/-
# The two programs match

From a memory of the kernel's that holds each device's blocks of the reference's arguments, device `c` ends with batch `c`
of the reference's output.
-/
module

public import proofs.«01_k».proof.Proof.Total
public import proofs.«01_k».proof.Proof.Plain

@[expose] public section

set_option maxRecDepth 16384

noncomputable section

namespace Cert.Heads

open Idealize.ShloMosaic Idealize.ShloMosaic.TcCoe
open Idealize.SL Idealize.SL.Sem

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ)

/-- The reference's arguments. -/
def argX : FVec Ideal ⟨3, ![4, 2048, 1024]⟩ .f32 := m' (((0 : Dev ReferenceIdeal.nD).tc : Thread ReferenceIdeal.nD ReferenceIdeal.τ).loc ReferenceIdeal.main_arg0)
def argWq : FVec Ideal ⟨2, ![1024, 4096]⟩ .f32 := m' (((0 : Dev ReferenceIdeal.nD).tc : Thread ReferenceIdeal.nD ReferenceIdeal.τ).loc ReferenceIdeal.main_arg1)
def argK : FVec Ideal ⟨4, ![4, 2048, 32, 128]⟩ .f32 := m' (((0 : Dev ReferenceIdeal.nD).tc : Thread ReferenceIdeal.nD ReferenceIdeal.τ).loc ReferenceIdeal.main_arg2)
def argV : FVec Ideal ⟨4, ![4, 2048, 32, 128]⟩ .f32 := m' (((0 : Dev ReferenceIdeal.nD).tc : Thread ReferenceIdeal.nD ReferenceIdeal.τ).loc ReferenceIdeal.main_arg3)
def argWo : FVec Ideal ⟨2, ![4096, 1024]⟩ .f32 := m' (((0 : Dev ReferenceIdeal.nD).tc : Thread ReferenceIdeal.nD ReferenceIdeal.τ).loc ReferenceIdeal.main_arg4)

/-- The reference's output at an index. -/
theorem reference_apply (b : Fin 4) (r : Fin 2048) (n : Fin 1024) :
    (ReferenceIdeal.Value.res_out0 m' 0 : FVec Ideal ⟨3, ![4, 2048, 1024]⟩ .f32) (ix3 b r n)
      = ∑ p : Fin 4096, share (argX m') (argWq m') (argK m') (argV m') (argWo m') b r n p :=
  (congrFun (ReferenceIdeal.Plain.res_eq m' 0) (ix3 b r n)).trans
    (ReferenceIdeal.Plain.out_apply (argX m') (argWq m') (argK m') (argV m') (argWo m') b r n)

/-- Device `c`'s output is batch `c`. -/
theorem kernel_eq
    (h0 : ∀ c : Dev KernelIdeal.nD, m ((c.tc : Thread KernelIdeal.nD KernelIdeal.τ).loc KernelIdeal.main_arg0) = Layout.block ⟨3, ![1, 2048, 1024]⟩ ⟨3, ![4, 2048, 1024]⟩ 0 4 c (argX m'))
    (h1 : ∀ c : Dev KernelIdeal.nD, m ((c.tc : Thread KernelIdeal.nD KernelIdeal.τ).loc KernelIdeal.main_arg1) = Layout.block ⟨2, ![1024, 1024]⟩ ⟨2, ![1024, 4096]⟩ 1 4 c (argWq m'))
    (h2 : ∀ c : Dev KernelIdeal.nD, m ((c.tc : Thread KernelIdeal.nD KernelIdeal.τ).loc KernelIdeal.main_arg2) = argK m')
    (h3 : ∀ c : Dev KernelIdeal.nD, m ((c.tc : Thread KernelIdeal.nD KernelIdeal.τ).loc KernelIdeal.main_arg3) = argV m')
    (h4 : ∀ c : Dev KernelIdeal.nD, m ((c.tc : Thread KernelIdeal.nD KernelIdeal.τ).loc KernelIdeal.main_arg4) = Layout.block ⟨2, ![1024, 1024]⟩ ⟨2, ![4096, 1024]⟩ 0 4 c (argWo m'))
    (c : Dev KernelIdeal.nD) :
    KernelIdeal.Ring.finalA m ρ c (3 : Fin 4)
      = Layout.block ⟨3, ![1, 2048, 1024]⟩ ⟨3, ![4, 2048, 1024]⟩ 0 4 c (ReferenceIdeal.Value.res_out0 m' 0 : FVec Ideal ⟨3, ![4, 2048, 1024]⟩ .f32) := by
  refine (KernelIdeal.Ring.final_out m ρ c).trans ?_
  funext i
  obtain ⟨r, n, rfl⟩ : ∃ (r : Fin 2048) (n : Fin 1024), i = ix3 (0 : Fin 1) r n := by
    refine ⟨i 1, i 2, funext fun q => ?_⟩
    match q with
    | 0 => exact Subsingleton.elim (α := Fin 1) _ _
    | 1 => rfl
    | 2 => rfl
  refine (KernelIdeal.Ring.outAt_sum m ρ (argX m') (argWq m') (argK m') (argV m') (argWo m') ?_ ?_ ?_ ?_ ?_ c r n).trans ?_
  · intro c r l
    exact (congrFun (h0 c) (ix3 0 r l)).trans (KernelIdeal.Ring.block_x (argX m') c r l)
  · intro c l p
    exact (congrFun (h1 c) (ix2 l p)).trans (KernelIdeal.Ring.block_wq (argWq m') c l p)
  · intro c i
    exact congrFun (h2 c) i
  · intro c i
    exact congrFun (h3 c) i
  · intro c p n
    exact (congrFun (h4 c) (ix2 p n)).trans (KernelIdeal.Ring.block_wo (argWo m') c p n)
  · exact (reference_apply m' c r n).symm.trans (KernelIdeal.Ring.block_x (ReferenceIdeal.Value.res_out0 m' 0) c r n).symm

end Cert.Heads
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kept
public import proofs.«01_k».proof.Proof.Match
public import proofs.«01_k».proof.Proof.Bits.Kept
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m g _ => Cert.Kernel.Ring.run_frame m g

theorem frame_ideal : Cert.quiescent_KernelIdeal (hKernelIdeal := Cert.KernelIdeal.Gen.facts) := fun m g _ => Cert.KernelIdeal.Ring.run_frame m g

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩) (Cert.ReferenceIdeal.Value.run m g)

/-- The two named literals: the scale, the inverse of the root of 128; the mask, minus infinity. -/
theorem preserves : Cert.preserves_Kernel_KernelIdeal :=
  ⟨IdealRules.named_const.statement Cert.KernelIdeal.κ "scale" .f32 0x3DB504F3#32 (((Real.sqrt 128)⁻¹ : ℝ) : EReal) rfl,
    IdealRules.named_const.statement Cert.KernelIdeal.κ "mask" .f32 0xCE6E6B28#32 ⊥ rfl⟩

/-- The final memories: each device's batch of the output, the arguments unchanged. -/
theorem algebraic : Cert.algebraic_KernelIdeal_ReferenceIdeal (hKernelIdeal := Cert.KernelIdeal.Gen.facts) (hReferenceIdeal := Cert.ReferenceIdeal.Gen.facts) :=
  fun m g m' g' _ h => ⟨Cert.ReferenceIdeal.Value.res_out0 m' 0,
    (θ_run Cert.KernelIdeal.defs _ _).mono (fun _ e c => ⟨((e.1 c).1 (3 : Fin 4)).trans (Cert.Heads.kernel_eq m g m'
        (fun c => (h c).1) (fun c => (h c).2.1) (fun c => (h c).2.2.1) (fun c => (h c).2.2.2.1) (fun c => (h c).2.2.2.2) c), e.1.args m g c⟩) (Cert.KernelIdeal.Ring.run_main m g),
    (θ_run Cert.ReferenceIdeal.defs _ _).mono (fun _ e => e 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, preserves, algebraic⟩

end Cert.Proof

end
